-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S8x512x1024 : Shape := ⟨3, ![8, 512, 1024]⟩
abbrev S8x1024 : Shape := ⟨2, ![8, 1024]⟩
abbrev S16x1x1024 : Shape := ⟨3, ![16, 1, 1024]⟩
abbrev S8 : Shape := ⟨1, ![8]⟩
abbrev S16 : Shape := ⟨1, ![16]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S64x8x1024 : Shape := ⟨3, ![64, 8, 1024]⟩
abbrev S1024 : Shape := ⟨1, ![1024]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S1x1024, .f32⟩
  | .local _ .vmem, ⟨1, _⟩ => ⟨S8x512x1024, .f32⟩
  | .local _ .vmem, ⟨2, _⟩ => ⟨S8x1024, .f32⟩
  | .local _ .vmem, ⟨3, _⟩ => ⟨S16x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v217 : Index := Scalar.indexCast v2
  let c0_205 : Index := 0#32
  let c0_206 : Index := 0#32
  ![v217.toNat, 0, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_213 : BitVec 32 := 0#32
  let c0_i32_214 : BitVec 32 := 0#32
  ![v2.toNat, 0, 0]
def k0_dev16 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_208 : BitVec 32 := 1#32
  let v221 : BitVec 32 := Scalar.addi v2 c1_i32_208
  let c16_i32_209 : BitVec 32 := 16#32
  let v222 : BitVec 32 := Scalar.remsi v221 c16_i32_209
  let c1_i32_211 : BitVec 32 := 1#32
  let v223 : BitVec 32 := Scalar.muli v222 c1_i32_211
  let v224 : BitVec 32 := Scalar.addi c0_i32_212 v223
  v224.toNat
def k0_dev17 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_217 : BitVec 32 := 2#32
  let v233 : BitVec 32 := Scalar.addi v2 c2_i32_217
  let c16_i32_218 : BitVec 32 := 16#32
  let v234 : BitVec 32 := Scalar.remsi v233 c16_i32_218
  let c1_i32_220 : BitVec 32 := 1#32
  let v235 : BitVec 32 := Scalar.muli v234 c1_i32_220
  let v236 : BitVec 32 := Scalar.addi c0_i32_221 v235
  v236.toNat
def k0_dev18 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_226 : BitVec 32 := 3#32
  let v245 : BitVec 32 := Scalar.addi v2 c3_i32_226
  let c16_i32_227 : BitVec 32 := 16#32
  let v246 : BitVec 32 := Scalar.remsi v245 c16_i32_227
  let c1_i32_229 : BitVec 32 := 1#32
  let v247 : BitVec 32 := Scalar.muli v246 c1_i32_229
  let v248 : BitVec 32 := Scalar.addi c0_i32_230 v247
  v248.toNat
def k0_dev19 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_235 : BitVec 32 := 4#32
  let v257 : BitVec 32 := Scalar.addi v2 c4_i32_235
  let c16_i32_236 : BitVec 32 := 16#32
  let v258 : BitVec 32 := Scalar.remsi v257 c16_i32_236
  let c1_i32_238 : BitVec 32 := 1#32
  let v259 : BitVec 32 := Scalar.muli v258 c1_i32_238
  let v260 : BitVec 32 := Scalar.addi c0_i32_239 v259
  v260.toNat
def k0_dev20 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_244 : BitVec 32 := 5#32
  let v269 : BitVec 32 := Scalar.addi v2 c5_i32_244
  let c16_i32_245 : BitVec 32 := 16#32
  let v270 : BitVec 32 := Scalar.remsi v269 c16_i32_245
  let c1_i32_247 : BitVec 32 := 1#32
  let v271 : BitVec 32 := Scalar.muli v270 c1_i32_247
  let v272 : BitVec 32 := Scalar.addi c0_i32_248 v271
  v272.toNat
def k0_dev21 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_253 : BitVec 32 := 6#32
  let v281 : BitVec 32 := Scalar.addi v2 c6_i32_253
  let c16_i32_254 : BitVec 32 := 16#32
  let v282 : BitVec 32 := Scalar.remsi v281 c16_i32_254
  let c1_i32_256 : BitVec 32 := 1#32
  let v283 : BitVec 32 := Scalar.muli v282 c1_i32_256
  let v284 : BitVec 32 := Scalar.addi c0_i32_257 v283
  v284.toNat
def k0_dev22 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_262 : BitVec 32 := 7#32
  let v293 : BitVec 32 := Scalar.addi v2 c7_i32_262
  let c16_i32_263 : BitVec 32 := 16#32
  let v294 : BitVec 32 := Scalar.remsi v293 c16_i32_263
  let c1_i32_265 : BitVec 32 := 1#32
  let v295 : BitVec 32 := Scalar.muli v294 c1_i32_265
  let v296 : BitVec 32 := Scalar.addi c0_i32_266 v295
  v296.toNat
def k0_dev23 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_271 : BitVec 32 := 8#32
  let v305 : BitVec 32 := Scalar.addi v2 c8_i32_271
  let c16_i32_272 : BitVec 32 := 16#32
  let v306 : BitVec 32 := Scalar.remsi v305 c16_i32_272
  let c1_i32_274 : BitVec 32 := 1#32
  let v307 : BitVec 32 := Scalar.muli v306 c1_i32_274
  let v308 : BitVec 32 := Scalar.addi c0_i32_275 v307
  v308.toNat
def k0_dev24 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_280 : BitVec 32 := 9#32
  let v317 : BitVec 32 := Scalar.addi v2 c9_i32_280
  let c16_i32_281 : BitVec 32 := 16#32
  let v318 : BitVec 32 := Scalar.remsi v317 c16_i32_281
  let c1_i32_283 : BitVec 32 := 1#32
  let v319 : BitVec 32 := Scalar.muli v318 c1_i32_283
  let v320 : BitVec 32 := Scalar.addi c0_i32_284 v319
  v320.toNat
def k0_dev25 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_289 : BitVec 32 := 10#32
  let v329 : BitVec 32 := Scalar.addi v2 c10_i32_289
  let c16_i32_290 : BitVec 32 := 16#32
  let v330 : BitVec 32 := Scalar.remsi v329 c16_i32_290
  let c1_i32_292 : BitVec 32 := 1#32
  let v331 : BitVec 32 := Scalar.muli v330 c1_i32_292
  let v332 : BitVec 32 := Scalar.addi c0_i32_293 v331
  v332.toNat
def k0_dev26 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_298 : BitVec 32 := 11#32
  let v341 : BitVec 32 := Scalar.addi v2 c11_i32_298
  let c16_i32_299 : BitVec 32 := 16#32
  let v342 : BitVec 32 := Scalar.remsi v341 c16_i32_299
  let c1_i32_301 : BitVec 32 := 1#32
  let v343 : BitVec 32 := Scalar.muli v342 c1_i32_301
  let v344 : BitVec 32 := Scalar.addi c0_i32_302 v343
  v344.toNat
def k0_dev27 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_307 : BitVec 32 := 12#32
  let v353 : BitVec 32 := Scalar.addi v2 c12_i32_307
  let c16_i32_308 : BitVec 32 := 16#32
  let v354 : BitVec 32 := Scalar.remsi v353 c16_i32_308
  let c1_i32_310 : BitVec 32 := 1#32
  let v355 : BitVec 32 := Scalar.muli v354 c1_i32_310
  let v356 : BitVec 32 := Scalar.addi c0_i32_311 v355
  v356.toNat
def k0_dev28 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_316 : BitVec 32 := 13#32
  let v365 : BitVec 32 := Scalar.addi v2 c13_i32_316
  let c16_i32_317 : BitVec 32 := 16#32
  let v366 : BitVec 32 := Scalar.remsi v365 c16_i32_317
  let c1_i32_319 : BitVec 32 := 1#32
  let v367 : BitVec 32 := Scalar.muli v366 c1_i32_319
  let v368 : BitVec 32 := Scalar.addi c0_i32_320 v367
  v368.toNat
def k0_dev29 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_325 : BitVec 32 := 14#32
  let v377 : BitVec 32 := Scalar.addi v2 c14_i32_325
  let c16_i32_326 : BitVec 32 := 16#32
  let v378 : BitVec 32 := Scalar.remsi v377 c16_i32_326
  let c1_i32_328 : BitVec 32 := 1#32
  let v379 : BitVec 32 := Scalar.muli v378 c1_i32_328
  let v380 : BitVec 32 := Scalar.addi c0_i32_329 v379
  v380.toNat
def k0_dev30 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_334 : BitVec 32 := 15#32
  let v389 : BitVec 32 := Scalar.addi v2 c15_i32_334
  let c16_i32_335 : BitVec 32 := 16#32
  let v390 : BitVec 32 := Scalar.remsi v389 c16_i32_335
  let c1_i32_337 : BitVec 32 := 1#32
  let v391 : BitVec 32 := Scalar.muli v390 c1_i32_337
  let v392 : BitVec 32 := Scalar.addi c0_i32_338 v391
  v392.toNat
def k0_off4 (d0 : Dev nD) (c1_i32_345 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v404 : BitVec 32 := Scalar.addi v2 c1_i32_345
  let c16_i32_346 : BitVec 32 := 16#32
  let v405 : BitVec 32 := Scalar.remsi v404 c16_i32_346
  ![v405.toNat]
def k0_off5 (d0 : Dev nD) (c1_i32_345 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v404 : BitVec 32 := Scalar.addi v2 c1_i32_345
  let c16_i32_346 : BitVec 32 := 16#32
  let v405 : BitVec 32 := Scalar.remsi v404 c16_i32_346
  let c0_i32_350 : BitVec 32 := 0#32
  let c0_i32_351 : BitVec 32 := 0#32
  ![v405.toNat, 0, 0]
def k0_off6 (d0 : Dev nD) (c1_i32_345 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v404 : BitVec 32 := Scalar.addi v2 c1_i32_345
  let c16_i32_346 : BitVec 32 := 16#32
  let v405 : BitVec 32 := Scalar.remsi v404 c16_i32_346
  let v414 : Index := Scalar.indexCast v405
  let c0_354 : Index := 0#32
  let c0_355 : Index := 0#32
  ![v414.toNat, 0, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Slots.lean ====
/-
# Buffers, slots, semaphores and the ring of devices

The kernel takes the column maximum of an array of 65536 rows that lies on sixteen devices, 4096 rows on each.
A device copies its rows into vector memory in eight blocks of 512, folds them into an 8-row running maximum, folds
that into one row, keeps the row in its own slot of a 16-slot exchange buffer, and sends the slot to the same slot of
each of the other fifteen devices. The result is the maximum of the sixteen slots.

This file names the pieces: the blocks and slots as element sets of their buffers, the semaphores, and the device at
distance `d` around the ring, with the facts that the blocks partition their buffers and the devices at the distances
0 to 15 are all the devices.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.MaxRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

set_option backward.proofsInPublic true in
/-- The device `d` places after `c` on the ring of sixteen. -/
def peer (c : Dev nD) (d : ℕ) : Dev nD := ⟨(c.val + d) % 16, Nat.mod_lt _ (by decide)⟩

/-- At distance zero stands the device itself. -/
theorem peer_zero (c : Dev nD) : peer c 0 = c := Fin.ext (Nat.mod_eq_of_lt c.isLt)

/-- Two distances under sixteen lead to one device only if they are the same. -/
theorem peer_inj (c : Dev nD) {d d' : ℕ} (hd : d < 16) (hd' : d' < 16) (h : peer c d = peer c d') : d = d' := by
  have h' : (c.val + d) % 16 = (c.val + d') % 16 := congrArg Fin.val h
  omega

/-- Every device stands at some distance under sixteen. -/
theorem exists_peer (c s : Dev nD) : ∃ d < 16, peer c d = s :=
  ⟨(s.val + 16 - c.val) % 16, Nat.mod_lt _ (by decide), Fin.ext (by
    have h1 : c.val < 16 := c.isLt
    have h2 : s.val < 16 := s.isLt
    show (c.val + (s.val + 16 - c.val) % 16) % 16 = s.val
    omega)⟩

/-- Only at distance zero stands the device itself. -/
theorem peer_ne (c : Dev nD) {d : ℕ} (h : 1 ≤ d) (h' : d < 16) : peer c d ≠ c := fun e => by
  have := peer_inj c h' (by decide) (e.trans (peer_zero c).symm)
  omega

/-- The device at the distance that completes `d` to a full turn has `c` at distance `d`. -/
theorem peer_back (c : Dev nD) {d : ℕ} (h : d ≤ 16) : peer (peer c (16 - d)) d = c := Fin.ext (by
  have h1 : c.val < 16 := c.isLt
  show ((c.val + (16 - d)) % 16 + d) % 16 = c.val
  omega)

/-- All the devices are the ones at the distances under sixteen. -/
theorem image_peer (c : Dev nD) : (Finset.range 16).image (peer c) = Finset.univ := by
  ext s
  simp only [Finset.mem_image, Finset.mem_range, Finset.mem_univ, iff_true]
  exact exists_peer c s

/-- All the other devices are the ones at the distances 1 to 15. -/
theorem image_peer_others (c : Dev nD) : (Finset.Ico 1 16).image (peer c) = Finset.univ.erase c := by
  ext s
  simp only [Finset.mem_image, Finset.mem_Ico, Finset.mem_erase, Finset.mem_univ, and_true]
  constructor
  · rintro ⟨d, ⟨h, h'⟩, rfl⟩; exact peer_ne c h h'
  · intro hs
    obtain ⟨d, hd, rfl⟩ := exists_peer c s
    refine ⟨d, ⟨Nat.pos_of_ne_zero fun h0 => hs ?_, hd⟩, rfl⟩
    rw [h0, peer_zero]

section Turn
variable {M : Type} [URA M]

/-- One resource per other device is one per distance 1 to 15. -/
theorem bigSep_others (c : Dev nD) (Φ : Dev nD → sProp M) :
    bigSep (Finset.univ.erase c) Φ = bigSep (Finset.Ico 1 16) fun d => Φ (peer c d) := by
  rw [← image_peer_others c, bigSep_image_of_injOn fun d hd d' hd' h =>
    peer_inj c (Finset.mem_Ico.mp hd).2 (Finset.mem_Ico.mp hd').2 h]

/-- One resource per device is one for `c` and one per distance 1 to 15. -/
theorem bigSep_turn (c : Dev nD) (Φ : Dev nD → sProp M) :
    bigSep Finset.univ Φ = iprop(Φ c ∗ bigSep (Finset.Ico 1 16) fun d => Φ (peer c d)) := by
  rw [← bigSep_others, BI.bigSep_erase (Finset.mem_univ c)]; rfl

/-- Exchange around the ring: one resource for every device and distance, held by the device it starts from, is the same
    held by the device it leads to. -/
theorem bigSep_exchange (Φ : Dev nD → Dev nD → sProp M) :
    (bigSep Finset.univ fun c => bigSep (Finset.Ico 1 16) fun d => Φ c (peer c d))
      = bigSep Finset.univ fun c => bigSep (Finset.Ico 1 16) fun d => Φ (peer c d) c := by
  have h := bigSep_erase_comm Φ
  simp only [bigSep_others] at h
  exact h

/-- A number under `n` for every number, itself when it is under `n`. -/
theorem bigSep_fin_Ico {n : ℕ} (f : ℕ → Fin n) (hf : ∀ (k : ℕ) (h : k < n), f k = ⟨k, h⟩) (Φ : Fin n → sProp M) :
    bigSep Finset.univ Φ = bigSep (Finset.Ico 0 n) fun k => Φ (f k) := by
  rw [← Finset.range_eq_Ico]
  exact Idealize.ShloMosaic.Ring.bigSep_fin_eq_range n Φ _ fun k h => by rw [hf k h]

end Turn

/-! ## The buffers and their blocks -/

/-- The device's rows, the 8-block landing buffer, the running maximum, the exchange buffer, the result's buffer. -/
abbrev xM : Memref sig .tc .hbm S4096x1024 .f32 := Memref.whole main_arg0
abbrev bufM : Memref sig .tc .vmem S8x512x1024 .f32 := Memref.whole cc0_scratch0
abbrev accM : Memref sig .tc .vmem S8x1024 .f32 := Memref.whole cc0_scratch1
abbrev commM : Memref sig .tc .vmem S16x1x1024 .f32 := Memref.whole cc0_scratch2
abbrev outM : Memref sig .tc .vmem S1x1024 .f32 := Memref.whole cc0_stg0_0

set_option backward.proofsInPublic true in
/-- Block numbers 0 to 7 from any number. -/
def bk (k : ℕ) : Fin 8 := ⟨k % 8, Nat.mod_lt _ (by decide)⟩

theorem bk_eq (k : ℕ) (h : k < 8) : bk k = ⟨k, h⟩ := Fin.ext (Nat.mod_eq_of_lt h)

theorem inbBuf (k : Fin 8) : ∀ a, (![k.val, 0, 0] : Fin 3 → ℕ) a + S1x512x1024.size a ≤ S8x512x1024.size a := by
  revert k; decide
theorem inbX (k : Fin 8) : ∀ a, (![512 * k.val, 0] : Fin 2 → ℕ) a + S512x1024.size a ≤ S4096x1024.size a := by
  revert k; decide
theorem inbComm (s : Dev nD) : ∀ a, (![s.val, 0, 0] : Fin 3 → ℕ) a + S1x1x1024.size a ≤ S16x1x1024.size a := by
  revert s; decide

/-- Slot `k` of the landing buffer, rows `512 k` to `512 k + 511` of the device's array, slot `s` of the exchange
    buffer: as rectangles, -/
abbrev bufR (k : Fin 8) : Rect S8x512x1024 := Rect.unit (s := S8x512x1024) ![k.val, 0, 0] S1x512x1024.size (inbBuf k)
abbrev xR (k : Fin 8) : Rect S4096x1024 := Rect.unit (s := S4096x1024) ![512 * k.val, 0] S512x1024.size (inbX k)
abbrev commR (s : Dev nD) : Rect S16x1x1024 := Rect.unit (s := S16x1x1024) ![s.val, 0, 0] S1x1x1024.size (inbComm s)

/-- and as the memrefs the copies and transfers name. -/
abbrev bufSlot (k : Fin 8) : Memref sig .tc .vmem S512x1024 .f32 :=
  (bufM.slice (bufR k) (fun _ => rfl)).squeeze S512x1024 squeezes_S1x512x1024_S512x1024
abbrev xBlk (k : Fin 8) : Memref sig .tc .hbm S512x1024 .f32 := xM.slice (xR k) (fun _ => rfl)
abbrev commSlot (s : Dev nD) : Memref sig .tc .vmem S1x1024 .f32 :=
  (commM.slice (commR s) (fun _ => rfl)).squeeze S1x1024 squeezes_S1x1x1024_S1x1024

theorem set_bufSlot (k : Fin 8) : (bufSlot k).view.set = (bufR k).set := by
  show (((View.whole cc0_scratch0).slice (bufR k)).reshape S512x1024 _).set = _
  rw [View.set_reshape, View.set_slice_whole]
theorem set_xBlk (k : Fin 8) : (xBlk k).view.set = (xR k).set := View.set_slice_whole main_arg0 (xR k)
theorem set_commSlot (s : Dev nD) : (commSlot s).view.set = (commR s).set := by
  show (((View.whole cc0_scratch2).slice (commR s)).reshape S1x1024 _).set = _
  rw [View.set_reshape, View.set_slice_whole]

theorem bufR_disjoint (k k' : Fin 8) (h : k ≠ k') : Disjoint (bufR k).set (bufR k').set :=
  Idealize.ShloMosaic.Ring.lead_disjoint (s := S8x512x1024) 0 1 (fun k : Fin 8 => ![k.val, 0, 0]) S1x512x1024.size inbBuf
    (fun k => (Nat.one_mul _).symm) rfl k k' h
theorem bufR_cover : Finset.univ.biUnion (fun k => (bufR k).set) = Finset.univ :=
  Idealize.ShloMosaic.Ring.lead_cover (s := S8x512x1024) 0 1 (fun k : Fin 8 => ![k.val, 0, 0]) S1x512x1024.size inbBuf
    (fun k => (Nat.one_mul _).symm) (by decide) rfl (by decide) rfl
theorem xR_disjoint (k k' : Fin 8) (h : k ≠ k') : Disjoint (xR k).set (xR k').set :=
  Idealize.ShloMosaic.Ring.lead_disjoint (s := S4096x1024) 0 512 (fun k : Fin 8 => ![512 * k.val, 0]) S512x1024.size inbX
    (fun k => rfl) rfl k k' h
theorem xR_cover : Finset.univ.biUnion (fun k => (xR k).set) = Finset.univ :=
  Idealize.ShloMosaic.Ring.lead_cover (s := S4096x1024) 0 512 (fun k : Fin 8 => ![512 * k.val, 0]) S512x1024.size inbX
    (fun k => rfl) (by decide) rfl (by decide) rfl
theorem commR_disjoint (k k' : Dev nD) (h : k ≠ k') : Disjoint (commR k).set (commR k').set :=
  Idealize.ShloMosaic.Ring.lead_disjoint (s := S16x1x1024) 0 1 (fun k : Dev nD => ![k.val, 0, 0]) S1x1x1024.size inbComm
    (fun k => (Nat.one_mul _).symm) rfl k k' h
theorem commR_cover : Finset.univ.biUnion (fun k => (commR k).set) = Finset.univ :=
  Idealize.ShloMosaic.Ring.lead_cover (s := S16x1x1024) 0 1 (fun k : Dev nD => ![k.val, 0, 0]) S1x1x1024.size inbComm
    (fun k => (Nat.one_mul _).symm) (by decide) rfl (by decide) rfl

/-! ## The semaphores -/

/-- The barrier semaphore; the semaphore of copy `k`; of the transfer to the device at distance `d`; of the arrivals
    from device `s`. -/
abbrev barS : Sem sig := (SemArray.scalar (sig.barrier 0 rfl) : Sems sig S_).sem
set_option backward.proofsInPublic true in
def copyS (k : Fin 8) : DmaSem sig := ⟨1 + k.val, by have := k.isLt; show _ < 41; omega⟩
set_option backward.proofsInPublic true in
def sendS (d : ℕ) : DmaSem sig := ⟨8 + d % 32, by have := Nat.mod_lt d (show 0 < 32 by decide); show _ < 41; omega⟩
set_option backward.proofsInPublic true in
def recvS (s : Dev nD) : DmaSem sig := ⟨25 + s.val, by have : s.val < 16 := s.isLt; show _ < 41; omega⟩

abbrev barCell (c : Dev nD) : GSem nD τ sig := ((c : Thread nD τ), .reg barS)
abbrev copyCell (c : Dev nD) (k : Fin 8) : GSem nD τ sig := ((c : Thread nD τ), .dma (copyS k))
abbrev sendCell (c : Dev nD) (d : ℕ) : GSem nD τ sig := ((c : Thread nD τ), .dma (sendS d))
abbrev recvCell (c s : Dev nD) : GSem nD τ sig := ((c : Thread nD τ), .dma (recvS s))

/-- The semaphore of the arrivals from device `s`, as an entry of the array of the sixteen. -/
theorem recv_entry (s : Dev nD) (inb : ∀ a, (![s.val] : Fin 1 → ℕ) a + S1.size a ≤ S16.size a) :
    (((cc0_scratch5 : DmaSems sig S16).slice (Rect.unit (s := S16) ![s.val] S1.size inb)).squeeze S_ squeezes_S1_S_).sem = recvS s := by
  revert inb; revert s; decide
/-- The same of the semaphores of the departures and of the copies. -/
theorem send_entry (j : Fin 16) (inb : ∀ a, (![j.val] : Fin 1 → ℕ) a + S1.size a ≤ S16.size a) :
    (((cc0_scratch4 : DmaSems sig S16).slice (Rect.unit (s := S16) ![j.val] S1.size inb)).squeeze S_ squeezes_S1_S_).sem = sendS (j.val + 1) := by
  revert inb; revert j; decide
theorem copy_entry (k : Fin 8) (inb : ∀ a, (![k.val] : Fin 1 → ℕ) a + S1.size a ≤ S8.size a) :
    (((cc0_scratch3 : DmaSems sig S8).slice (Rect.unit (s := S8) ![k.val] S1.size inb)).squeeze S_ squeezes_S1_S_).sem = copyS k := by
  revert inb; revert k; decide

end Cert.MaxRing
-- ==== Proof.Protocol.lean ====
/-
# The protocol of the exchange

Every semaphore of every device carries at most one round. Who pays into it and what the payment hands over:

* the barrier semaphore of device `c`: one unit from each other device `p`, with `c`'s slot of `p`'s exchange buffer
  — what `c` needs to send its row to `p`;
* the semaphore of copy `k`: the copy itself, with the landed block and the source rows;
* the semaphore of the transfer to the device at distance `d`: the transfer, with the share of the source slot it read;
* the semaphore of the arrivals from `s`: the transfer of `s`, with slot `s` holding the row of `s`.

The last two sections state what a device owes at launch and in which order the semaphores may be waited for: copies and
departures first, the barrier next, arrivals last.
-/
module

public import proofs.«01_k».proof.Proof.Slots
public import Idealize.SL.BI.BigOpNat

@[expose] public section

noncomputable section

namespace Cert.MaxRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

/-! ## Resources -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s rows. -/
abbrev xV (c : Dev nD) : Buf (Elt F) ((c : Thread nD τ).loc main_arg0) := m ((c : Thread nD τ).loc main_arg0)

/-- The landing buffer once copy `k` has filled its slot. -/
def copied (c : Dev nD) (k : Fin 8) : Buf (Elt F) ((c : Thread nD τ).loc cc0_scratch0) :=
  (bufSlot k).view.write (Elt F) (m ((c : Thread nD τ).loc cc0_scratch0)) ((xBlk k).view.read (Elt F) (xV m c)) Finset.univ

/-- The block read back from its slot. -/
def strip (c : Dev nD) (k : Fin 8) : Vec F S1x512x1024 .f32 :=
  bufM.view.readAt (Elt F) (bufR k).toLoadRect (copied m c k)

/-- The running maximum after block `k`. -/
def accAt (c : Dev nD) : ℕ → Vec F S8x1024 .f32
  | 0 => k0_pay1 (strip m c (bk 0))
  | k + 1 => k0_pay3 (k0_pay2 (strip m c (bk (k + 1)))) (accAt c k)

/-- The device's row: the maximum of its 4096 rows. -/
def rowAt (c : Dev nD) : Vec F S1x1x1024 .f32 := k0_pay13 (accAt m c 7)

/-- The exchange buffer of device `c` once slot `s` holds the row of device `s`. -/
def rowV (c s : Dev nD) : Buf (Elt F) ((c : Thread nD τ).loc cc0_scratch2) :=
  (commM.access (commR s)).write (Elt F) (m ((c : Thread nD τ).loc cc0_scratch2)) (rowAt m s) Finset.univ

/-- The maximum of the rows of the devices at the distances 0 to `d`. -/
def best (c : Dev nD) : ℕ → Vec F S1x1024 .f32
  | 0 => k0_pay14 (rowAt m c)
  | d + 1 => maximumf (best c d) (shapeCast S1x1024 (rowAt m (peer c (d + 1))) shapeCasts_S1x1x1024_S1x1024)

/-! ## Held pieces of the buffers -/

def bufPts (c : Dev nD) (k : Fin 8) (f : Buf (Elt F) ((c : Thread nD τ).loc cc0_scratch0)) : sProp 𝕄 :=
  (c : Thread nD τ).loc cc0_scratch0 ↦[(bufSlot k).view.set]{fullShare} f
def xPts (c : Dev nD) (k : Fin 8) : sProp 𝕄 :=
  (c : Thread nD τ).loc main_arg0 ↦[(xBlk k).view.set]{fullShare} xV m c
def commPts (c s : Dev nD) (q : PosShare TreeShare) (f : Buf (Elt F) ((c : Thread nD τ).loc cc0_scratch2)) : sProp 𝕄 :=
  (c : Thread nD τ).loc cc0_scratch2 ↦[(commSlot s).view.set]{q} f

instance bufPts_storable (c k f) : BI.Storable (upEmb : UEmb _ 𝕄) (bufPts (F := F) c k f) := by unfold bufPts; infer_instance
instance xPts_storable (c k) : BI.Storable (upEmb : UEmb _ 𝕄) (xPts (F := F) m c k) := by unfold xPts; infer_instance
instance commPts_storable (c s q f) : BI.Storable (upEmb : UEmb _ 𝕄) (commPts (F := F) c s q f) := by unfold commPts; infer_instance

/-- A slot holding a row holds it whatever the rest of the buffer holds. -/
theorem commPts_row (c s : Dev nD) (q : PosShare TreeShare) (f : Buf (Elt F) ((c : Thread nD τ).loc cc0_scratch2)) :
    commPts c s q ((commM.access (commR s)).write (Elt F) f (rowAt m s) Finset.univ) = (commPts c s q (rowV m c s) : sProp 𝕄) := by
  unfold commPts rowV
  rw [set_commSlot, ← View.set_slice_whole cc0_scratch2 (commR s)]
  exact View.pointsTo_write_univ_congr (c : Thread nD τ) (commM.access (commR s)) q f _ (rowAt m s)

/-- What was read through a view and written through it at another copy of the buffer is what was there. -/
theorem write_read_on {sig : RefSig} {κ : Kind} {sp : Space} {s : Shape} {e : EltTy} {Val : EltTy → Type} (v : View sig κ sp s e)
    (f g : v.ty.Contents Val) {i : v.ty.Idx} (hi : i ∈ v.set) : v.write Val f (v.read Val g) Finset.univ i = g i := by
  rw [View.write_read_eq_piecewise, View.setOn_univ, Finset.piecewise_eq_of_mem _ _ _ hi]

/-- What is written through a view does not depend on what the buffer held. -/
theorem write_univ_on {sig : RefSig} {κ : Kind} {sp : Space} {s : Shape} {e : EltTy} {Val : EltTy → Type} (v : View sig κ sp s e)
    (f g : v.ty.Contents Val) (w : s.Idx → Val e) {i : v.ty.Idx} (hi : i ∈ v.set) :
    v.write Val f w Finset.univ i = v.write Val g w Finset.univ i :=
  View.write_congr (fun _ _ _ => rfl) fun h => absurd hi h

/-- A slot into which the same slot of another device's buffer was copied holds that device's row. -/
theorem commPts_sent (c p s : Dev nD) (f : Buf (Elt F) ((c : Thread nD τ).loc cc0_scratch2)) :
    commPts c s fullShare ((commSlot s).view.write (Elt F) f ((commSlot s).view.read (Elt F) (rowV m p s)) Finset.univ)
      = (commPts c s fullShare (rowV m c s) : sProp 𝕄) := by
  unfold commPts
  refine pointsTo_congr fun i hi => (write_read_on (commSlot s).view f (rowV m p s) hi).trans ?_
  rw [set_commSlot, ← View.set_slice_whole cc0_scratch2 (commR s)] at hi
  exact write_univ_on (commM.access (commR s)) _ _ _ hi

/-- A slot the copy filled holds the block whatever the buffer held before. -/
theorem bufPts_copied (c : Dev nD) (k : Fin 8) (f : Buf (Elt F) ((c : Thread nD τ).loc cc0_scratch0)) :
    bufPts c k ((bufSlot k).view.write (Elt F) f ((xBlk k).view.read (Elt F) (xV m c)) Finset.univ) = (bufPts c k (copied m c k) : sProp 𝕄) :=
  View.pointsTo_write_univ_congr (c : Thread nD τ) (bufSlot k).view fullShare f _ _

/-! ## The schedule -/

/-- What one landed block, one sent row, credits. -/
def NB : ℕ := (bufSlot 0).view.dmaCredit
def NC : ℕ := (commSlot 0).view.dmaCredit
theorem credit_buf (k : Fin 8) : (bufSlot k).view.dmaCredit = NB := rfl
theorem credit_comm (s : Dev nD) : (commSlot s).view.dmaCredit = NC := rfl
theorem NB_pos : 0 < NB := View.dmaCredit_pos _ (by decide)
theorem NC_pos : 0 < NC := View.dmaCredit_pos _ (by decide)

def barPay (c p : Dev nD) : sProp 𝕄 := iprop(∃ f, commPts p c fullShare f)
def copyPay (c : Dev nD) (k : Fin 8) : sProp 𝕄 := iprop(bufPts c k (copied m c k) ∗ xPts m c k)
def sendPay (c : Dev nD) (d : ℕ) : sProp 𝕄 := commPts c c (shareTokN fullShare (d - 1)) (rowV m c c)
def recvPay (c s : Dev nD) : sProp 𝕄 := commPts c s fullShare (rowV m c s)

/-- The transfer semaphores no transfer uses: the pipeline's own, the sixteenth departure, the device's own arrival. -/
abbrev Idle (c : Dev nD) (q : ℕ) : Prop := q = 0 ∨ q = 24 ∨ q = 25 + c.val

set_option backward.proofsInPublic true in
def ringRd : Rounds.Schedule (GSem nD τ sig) (Dev nD) 𝕄 where
  duties g r := if r = 0 ∧ g.1.2 = .tc then
      (match g.2 with
        | .reg _ => Finset.univ.erase g.1.1
        | .dma q => if Idle g.1.1 q.val then ∅ else {0})
    else ∅
  unitless _ := False
  amount g _ _ := match g.2 with
    | .reg _ => 1
    | .dma q => if q.val < 9 then NB else NC
  payload g _ d := match g.2 with
    | .reg _ => barPay g.1.1 d
    | .dma q =>
      if q.val < 9 then copyPay m g.1.1 (bk (q.val - 1))
      else if q.val < 25 then sendPay m g.1.1 (q.val - 8)
      else recvPay m g.1.1 ⟨(q.val - 25) % 16, Nat.mod_lt _ (by decide)⟩
  amount_pos g _ _ _ := by
    obtain ⟨t, s⟩ := g
    cases s with
    | reg _ => exact Nat.one_pos
    | dma q => dsimp only; split; exacts [NB_pos, NC_pos]

instance ringRd_payload_storable (g : GSem nD τ sig) (r : ℕ) (d : Dev nD) :
    BI.Storable (upEmb : UEmb _ 𝕄) ((ringRd (F := F) m).payload g r d) := by
  obtain ⟨t, s⟩ := g
  cases s with
  | reg _ => show BI.Storable upEmb (barPay t.1 d); unfold barPay; infer_instance
  | dma q =>
    show BI.Storable upEmb (if q.val < 9 then copyPay m t.1 (bk (q.val - 1)) else if q.val < 25 then sendPay m t.1 (q.val - 8)
      else recvPay m t.1 ⟨(q.val - 25) % 16, Nat.mod_lt _ (by decide)⟩)
    unfold copyPay sendPay recvPay
    (repeat' split) <;> infer_instance

section Sched
variable (c s : Dev nD) (k : Fin 8) {d : ℕ}

theorem val_copyS : (copyS k).val = 1 + k.val := rfl
theorem val_sendS (h' : d < 16) : (sendS d).val = 8 + d := by show 8 + d % 32 = _; omega
theorem val_recvS : (recvS s).val = 25 + s.val := rfl

theorem duties_bar : (ringRd (F := F) m).duties (barCell c) 0 = Finset.univ.erase c := by
  dsimp only [ringRd]; rw [if_pos ⟨rfl, rfl⟩]
theorem duties_dma (q : DmaSem sig) (h : ¬ Idle c q.val) : (ringRd (F := F) m).duties ((c : Thread nD τ), .dma q) 0 = {0} := by
  dsimp only [ringRd]; rw [if_pos ⟨rfl, rfl⟩, if_neg h]
theorem duties_idle (q : DmaSem sig) (h : Idle c q.val) : (ringRd (F := F) m).duties ((c : Thread nD τ), .dma q) 0 = ∅ := by
  dsimp only [ringRd]; rw [if_pos ⟨rfl, rfl⟩, if_pos h]
theorem duties_later (g : GSem nD τ sig) : ∀ r, 1 ≤ r → (ringRd (F := F) m).duties g r = ∅ :=
  fun r hr => if_neg fun h => by omega

theorem busy_copy : ¬ Idle c (copyS k).val := by
  have := k.isLt; rw [val_copyS]; rintro (h | h | h) <;> omega
theorem busy_send (h : 1 ≤ d) (h' : d < 16) : ¬ Idle c (sendS d).val := by
  rw [val_sendS h']; rintro (h | h | h) <;> omega
theorem busy_recv (h : s ≠ c) : ¬ Idle c (recvS s).val := by
  rw [val_recvS]
  rintro (e | e | e)
  · omega
  · omega
  · exact h (Fin.ext (by omega))

theorem duties_copy : (ringRd (F := F) m).duties (copyCell c k) 0 = {0} := duties_dma m c _ (busy_copy c k)
theorem duties_send (h : 1 ≤ d) (h' : d < 16) : (ringRd (F := F) m).duties (sendCell c d) 0 = {0} := duties_dma m c _ (busy_send c h h')
theorem duties_recv (h : s ≠ c) : (ringRd (F := F) m).duties (recvCell c s) 0 = {0} := duties_dma m c _ (busy_recv c s h)

theorem amount_bar (p : Dev nD) : (ringRd (F := F) m).amount (barCell c) 0 p = 1 := rfl
theorem amount_copy (p : Dev nD) : (ringRd (F := F) m).amount (copyCell c k) 0 p = NB :=
  if_pos (by have := k.isLt; rw [val_copyS]; omega)
theorem amount_send (h : 1 ≤ d) (h' : d < 16) (p : Dev nD) : (ringRd (F := F) m).amount (sendCell c d) 0 p = NC :=
  if_neg (by rw [val_sendS h']; omega)
theorem amount_recv (p : Dev nD) : (ringRd (F := F) m).amount (recvCell c s) 0 p = NC :=
  if_neg (by rw [val_recvS]; omega)

theorem payload_bar (p : Dev nD) : (ringRd (F := F) m).payload (barCell c) 0 p = barPay c p := rfl
theorem payload_copy (p : Dev nD) : (ringRd (F := F) m).payload (copyCell c k) 0 p = copyPay m c k := by
  have h : bk ((copyS k).val - 1) = k := by
    rw [val_copyS, bk_eq _ (by have := k.isLt; omega)]; exact Fin.ext (by show 1 + k.val - 1 = k.val; omega)
  refine (if_pos (by have := k.isLt; rw [val_copyS]; omega)).trans ?_
  rw [h]
theorem payload_send (h : 1 ≤ d) (h' : d < 16) (p : Dev nD) : (ringRd (F := F) m).payload (sendCell c d) 0 p = sendPay m c d := by
  refine (if_neg (by rw [val_sendS h']; omega)).trans ((if_pos (by rw [val_sendS h']; omega)).trans ?_)
  rw [val_sendS h', Nat.add_sub_cancel_left]
theorem payload_recv (p : Dev nD) : (ringRd (F := F) m).payload (recvCell c s) 0 p = recvPay m c s := by
  have h2 : s.val < 16 := s.isLt
  refine (if_neg (by rw [val_recvS]; omega)).trans ((if_neg (by rw [val_recvS]; omega)).trans ?_)
  congr 1
  exact Fin.ext (by show (25 + s.val - 25) % 16 = s.val; omega)

theorem expect_bar : (ringRd (F := F) m).expect (barCell c) 0 = 15 := by
  unfold Schedule.expect Schedule.amountOf
  rw [duties_bar, Finset.sum_congr rfl fun d _ => amount_bar m c d, Finset.sum_const, Finset.card_erase_of_mem (Finset.mem_univ c),
    Finset.card_univ, Fintype.card_fin, smul_eq_mul]
  rfl
theorem expect_copy : (ringRd (F := F) m).expect (copyCell c k) 0 = NB := by
  unfold Schedule.expect Schedule.amountOf; rw [duties_copy, Finset.sum_singleton, amount_copy]
theorem expect_send (h : 1 ≤ d) (h' : d < 16) : (ringRd (F := F) m).expect (sendCell c d) 0 = NC := by
  unfold Schedule.expect Schedule.amountOf; rw [duties_send m c h h', Finset.sum_singleton, amount_send m c h h']
theorem expect_recv (h : s ≠ c) : (ringRd (F := F) m).expect (recvCell c s) 0 = NC := by
  unfold Schedule.expect Schedule.amountOf; rw [duties_recv m c s h, Finset.sum_singleton, amount_recv]

/-- What the barrier wait brings: `c`'s slot of every other device's exchange buffer. -/
theorem rest_bar : bigSep ((ringRd (F := F) m).duties (barCell c) 0 \ ∅) (fun p => (ringRd (F := F) m).payload (barCell c) 0 p)
    = bigSep (Finset.Ico 1 16) fun d => iprop(∃ f, commPts (F := F) (peer c d) c fullShare f) := by
  rw [Finset.sdiff_empty, duties_bar, bigSep_others]; rfl
theorem rest_copy : bigSep ((ringRd (F := F) m).duties (copyCell c k) 0 \ ∅) (fun p => (ringRd (F := F) m).payload (copyCell c k) 0 p) = copyPay m c k := by
  rw [Finset.sdiff_empty, duties_copy, bigSep_singleton, payload_copy]
theorem rest_send (h : 1 ≤ d) (h' : d < 16) :
    bigSep ((ringRd (F := F) m).duties (sendCell c d) 0 \ ∅) (fun p => (ringRd (F := F) m).payload (sendCell c d) 0 p) = sendPay m c d := by
  rw [Finset.sdiff_empty, duties_send m c h h', bigSep_singleton, payload_send m c h h']
theorem rest_recv (h : s ≠ c) :
    bigSep ((ringRd (F := F) m).duties (recvCell c s) 0 \ ∅) (fun p => (ringRd (F := F) m).payload (recvCell c s) 0 p) = recvPay m c s := by
  rw [Finset.sdiff_empty, duties_recv m c s h, bigSep_singleton, payload_recv]

end Sched

/-! ## What a device owes -/

/-- The barrier units a device still owes from distance `k` on, the arrivals it still owes from distance `k` on. -/
def oBar (c : Dev nD) (k : ℕ) : CellTallies nD τ sig Unit := ∑ d ∈ Finset.Ico k 16, tallyAt (barCell (peer c d)) () 1
def oSend (c : Dev nD) (k : ℕ) : CellTallies nD τ sig Unit := ∑ d ∈ Finset.Ico k 16, tallyAt (recvCell (peer c d) c) () NC
def O₀ (c : Dev nD) : CellTallies nD τ sig Unit := oBar c 1 + oSend c 1

/-- A sum over a run of numbers with its first term set apart. -/
theorem sum_first {A : Type} [AddCommMonoid A] {a b : ℕ} (h : a < b) (f : ℕ → A) :
    ∑ d ∈ Finset.Ico a b, f d = f a + ∑ d ∈ Finset.Ico (a + 1) b, f d := by
  rw [show Finset.Ico a b = insert a (Finset.Ico (a + 1) b) by ext x; simp only [Finset.mem_Ico, Finset.mem_insert]; omega,
    Finset.sum_insert (by rw [Finset.mem_Ico]; omega)]

theorem oBar_step (c : Dev nD) {k : ℕ} (h : k < 16) (X : CellTallies nD τ sig Unit) :
    oBar c k + X = (oBar c (k + 1) + X) + tallyAt (barCell (peer c k)) () 1 := by
  unfold oBar; rw [sum_first h, add_assoc, add_comm]
theorem oSend_step (c : Dev nD) {k : ℕ} (h : k < 16) :
    oSend c k = oSend c (k + 1) + tallyAt (recvCell (peer c k) c) () NC := by
  unfold oSend; rw [sum_first h, add_comm]
theorem oBar_end (c : Dev nD) : oBar c 16 = 0 := rfl
theorem oSend_end (c : Dev nD) : oSend c 16 = 0 := rfl

theorem tally_sum_pos {S : Finset ℕ} {cell : ℕ → GSem nD τ sig} {n : ℕ} {g : GSem nD τ sig} {u : Unit}
    (h : 0 < (∑ d ∈ S, tallyAt (Ix := Unit) (cell d) () n) g u) : ∃ d ∈ S, g = cell d := by
  rw [Finset.sum_apply, Finsupp.finset_sum_apply] at h
  obtain ⟨d, hd, hne⟩ := Finset.exists_ne_zero_of_sum_ne_zero h.ne'
  refine ⟨d, hd, ?_⟩
  rw [tallyAt_apply] at hne
  by_contra hc
  exact hne (if_neg fun h' => hc h'.1)

theorem oSend_pos {c : Dev nD} {k : ℕ} {g : GSem nD τ sig} {u : Unit} (h : 0 < oSend c k g u) : ∃ p : Dev nD, g = recvCell p c :=
  (tally_sum_pos h).elim fun d h => ⟨peer c d, h.2⟩
theorem O₀_pos {c : Dev nD} {g : GSem nD τ sig} {u : Unit} (h : 0 < O₀ c g u) :
    ∃ p : Dev nD, g = barCell p ∨ g = recvCell p c := by
  unfold O₀ at h
  rw [Pi.add_apply, Finsupp.add_apply] at h
  rcases Nat.eq_zero_or_pos (oBar c 1 g u) with h0 | h0
  · rw [h0, zero_add] at h
    exact (oSend_pos h).imp fun _ h => .inr h
  · exact (tally_sum_pos h0).elim fun d h => ⟨peer c d, .inl h.2⟩

/-! ## The order of the waits -/

def L (g : GSem nD τ sig) : Finset Unit := if g.1.2 = .tc then {()} else ∅
/-- Arrivals at 2, the barrier at 1, copies and departures at 0. -/
def lv (g : GSem nD τ sig) (_ : Unit) : ℕ := match g.2 with
  | .reg _ => 1
  | .dma q => if q.val < 25 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_copy (c : Dev nD) (k : Fin 8) : lv (copyCell c k) () = 0 := if_pos (by have := k.isLt; rw [val_copyS]; omega)
theorem lv_recv (c s : Dev nD) : lv (recvCell c s) () = 2 := if_neg (by rw [val_recvS]; omega)

/-- A device may wait for a semaphore below everything it owes. -/
theorem mayWait_of (n : ℕ) (c : Dev nD) (sm : SemLoc sig) (hsm : lv ((c : Thread nD τ), sm) () ≤ n) (O : CellTallies nD τ sig Unit)
    (hO : ∀ g u, 0 < O g u → ∃ (p : Dev nD) (s : SemLoc sig), g = ((p : Thread nD τ), s) ∧ n < lv g ()) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨p, s, rfl, -⟩ := hO g u hg; rw [L_tc]; exact Finset.mem_singleton_self _)
    (fun p hp => by rw [Finset.mem_singleton.mp hp]; exact hsm)
    (fun g u hg => by obtain ⟨p, s, -, h⟩ := hO g u hg; exact h)

/-- Owing arrivals only, a device may wait for a copy or its barrier. -/
theorem mayWait_sends (c : Dev nD) (k : ℕ) (sm : SemLoc sig) (hsm : lv ((c : Thread nD τ), sm) () ≤ 1) :
    (levAts L lv : sProp 𝕄) ⊢ MayWait (c : Thread nD τ) sm () (oSend c k) :=
  mayWait_of 1 c sm hsm _ fun g u h => by
    obtain ⟨p, rfl⟩ := oSend_pos h
    exact ⟨p, _, rfl, by rw [lv_recv]; decide⟩

/-- Owing what it owes at launch, a device may wait for a semaphore of the lowest level. -/
theorem mayWait_launch (c : Dev nD) (sm : SemLoc sig) (hsm : lv ((c : Thread nD τ), sm) () = 0) :
    (levAts L lv : sProp 𝕄) ⊢ MayWait (c : Thread nD τ) sm () (O₀ c) :=
  mayWait_of 0 c sm hsm.le _ fun g u h => by
    obtain ⟨p, rfl | rfl⟩ := O₀_pos h
    · exact ⟨p, _, rfl, by rw [lv_bar]; decide⟩
    · exact ⟨p, _, rfl, by rw [lv_recv]; decide⟩

/-! ## What everyone knows -/

set_option backward.proofsInPublic true in
/-- The semaphores of a device in one list: the barrier and the transfer semaphores (the pipeline's own, number 0, gives
    its place to the barrier). -/
def csem (i : Fin 41) : SemLoc sig := if i.val = 0 then .reg barS else .dma i
abbrev kcell (ci : Dev nD × Fin 41) : GSem nD τ sig := ((ci.1 : Thread nD τ), csem ci.2)

/-- Every cell follows the schedule and has reached its round. -/
def records : sProp 𝕄 :=
  bigSep Finset.univ fun ci : Dev nD × Fin 41 => iprop(∃ κ : ℕ, cellInv ER (ringRd m) κ (kcell ci) ∗ reached ER (kcell ci) 0)

/-- That and the order of the waits. -/
def ctx : sProp 𝕄 := iprop(records m ∗ levAts L lv)

instance records_persistent : BI.Persistent (records (F := F) m) := by unfold records; infer_instance
instance ctx_persistent : BI.Persistent (ctx (F := F) m) := by unfold ctx; infer_instance

theorem records_at (ci : Dev nD × Fin 41) :
    records m ⊢ (iprop(∃ κ : ℕ, cellInv ER (ringRd m) κ (kcell ci) ∗ reached ER (kcell ci) 0) : sProp 𝕄) :=
  bigSep_elim (Finset.mem_univ ci)
theorem ctx_bar (c : Dev nD) :
    ctx m ⊢ (iprop(∃ κ : ℕ, cellInv ER (ringRd m) κ (barCell c) ∗ reached ER (barCell c) 0) : sProp 𝕄) := by
  unfold ctx; iintro ⟨H, -⟩; iapply (records_at m (c, 0)); iexact H
theorem ctx_dma (c : Dev nD) (q : DmaSem sig) (hq : q.val ≠ 0) :
    ctx m ⊢ (iprop(∃ κ : ℕ, cellInv ER (ringRd m) κ ((c : Thread nD τ), .dma q) ∗ reached ER ((c : Thread nD τ), .dma q) 0) : sProp 𝕄) := by
  have h : csem q = .dma q := if_neg hq
  have h' := records_at m (c, q)
  unfold kcell at h'
  dsimp only at h'
  rw [h] at h'
  unfold ctx; iintro ⟨H, -⟩; iapply h'; iexact H
theorem ctx_lev : ctx m ⊢ (levAts L lv : sProp 𝕄) := by unfold ctx; iintro ⟨-, H⟩; iexact H
/-- While it owes arrivals only, a device may wait for a copy or its barrier. -/
theorem ctx_wait (c : Dev nD) (k : ℕ) (sm : SemLoc sig) (h : lv ((c : Thread nD τ), sm) () ≤ 1) :
    ctx m ⊢ (MayWait (c : Thread nD τ) sm () (oSend c k) : sProp 𝕄) := by
  unfold ctx
  iintro ⟨-, H⟩
  iapply (mayWait_sends c k sm h)
  iexact H

end Cert.MaxRing
-- ==== Proof.Steps.lean ====
/-
# One rule per kind of operation

Each theorem here takes a program that begins with one operation of the kernel, at the state the device is in, and
leaves the rest of the program at the state after it. What does not take part in the operation is `R`.
-/
module

public import proofs.«01_k».proof.Proof.Protocol

@[expose] public section

noncomputable section

namespace Cert.MaxRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

abbrev 𝒱₀ : Variants := Variants.none

variable (m : (ℓ : Loc nD τ sig) → Buf (Elt F) ℓ) (c : Dev nD)

/-- The device runs `p` and ends with `Q`. -/
abbrev Runs {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## States -/

/-- A walk along the numbers `a` to `b`: those under `k` are at `B`, the others at `A`. -/
def Walk (A B : ℕ → sProp 𝕄) (a b k : ℕ) : sProp 𝕄 :=
  iprop(bigSep (Finset.Ico a k) B ∗ bigSep (Finset.Ico k b) A)

theorem walk_take (A B : ℕ → sProp 𝕄) {a b k : ℕ} (h : k < b) :
    Walk A B a b k = iprop(bigSep (Finset.Ico a k) B ∗ A k ∗ bigSep (Finset.Ico (k + 1) b) A) := by
  unfold Walk; rw [bigSep_Ico_succ_bot h]
theorem walk_put (A B : ℕ → sProp 𝕄) {a b k : ℕ} (h : a ≤ k) :
    Walk A B a b (k + 1) = iprop((B k ∗ bigSep (Finset.Ico a k) B) ∗ bigSep (Finset.Ico (k + 1) b) A) := by
  unfold Walk; rw [bigSep_Ico_succ_top h]
theorem walk_start (A B : ℕ → sProp 𝕄) (a b : ℕ) : bigSep (Finset.Ico a b) A ⊢ Walk A B a b a := by
  unfold Walk; rw [Finset.Ico_self, bigSep_empty]
  iintro H; isplitr; · iempintro
  iexact H
theorem walk_end (A B : ℕ → sProp 𝕄) (a b : ℕ) : Walk A B a b b ⊢ bigSep (Finset.Ico a b) B := by
  unfold Walk; iintro ⟨H, -⟩; iexact H

/-- What the device owes at distance `k` of the transfers, whatever it has waited for. -/
def Ow (k : ℕ) : sProp 𝕄 := iprop(∃ W, owes (c : Thread nD τ) (oSend c k) W)

/-- Before the barrier unit to the device at distance `k`. -/
def SigSt (k : ℕ) : sProp 𝕄 :=
  iprop((∃ W, owes (c : Thread nD τ) (oBar c k + oSend c 1) W)
    ∗ bigSep (Finset.Ico k 16) fun d => iprop(dutyTok ER (barCell (peer c d)) 0 c ∗ ∃ f, commPts (F := F) c (peer c d) fullShare f))

/-- Copy `k` to start, in flight, arrived. -/
def copyA (k : ℕ) : sProp 𝕄 :=
  iprop(atPos ER (copyCell c (bk k)) 0 ∅ 0 ∗ dutyTok ER (copyCell c (bk k)) 0 0 ∗ (∃ f, bufPts (F := F) c (bk k) f) ∗ xPts m c (bk k))
def copyB (k : ℕ) : sProp 𝕄 := iprop(atPos ER (copyCell c (bk k)) 0 ∅ 0 ∗ cred (tallyAt (copyCell c (bk k)) () NB))
def copyC (k : ℕ) : sProp 𝕄 := iprop(atPos ER (copyCell c (bk k)) 1 ∅ 0 ∗ bufPts c (bk k) (copied m c (bk k)) ∗ xPts m c (bk k))

/-- The transfer to the device at distance `d` to start, in flight, departed. -/
def sendA (d : ℕ) : sProp 𝕄 :=
  iprop(atPos ER (sendCell c d) 0 ∅ 0 ∗ dutyTok ER (sendCell c d) 0 0 ∗ dutyTok ER (recvCell (peer c d) c) 0 0
    ∗ (∃ f, commPts (F := F) (peer c d) c fullShare f) ∗ commPts c c (shareTokN fullShare (d - 1)) (rowV m c c))
def sendB (d : ℕ) : sProp 𝕄 := iprop(atPos ER (sendCell c d) 0 ∅ 0 ∗ cred (tallyAt (sendCell c d) () NC))
def sendC (d : ℕ) : sProp 𝕄 := iprop(atPos ER (sendCell c d) 1 ∅ 0 ∗ commPts c c (shareTokN fullShare (d - 1)) (rowV m c c))

/-- The row of the device at distance `d` to arrive, arrived. -/
def recvA (d : ℕ) : sProp 𝕄 := iprop(atPos ER (recvCell c (peer c d)) 0 ∅ 0 ∗ cred (tallyAt (recvCell c (peer c d)) () NC))
def recvB (d : ℕ) : sProp 𝕄 := iprop(atPos ER (recvCell c (peer c d)) 1 ∅ 0 ∗ commPts c (peer c d) fullShare (rowV m c (peer c d)))

/-- The running maximum's buffer; the result's. -/
def accPts (f : Vec F S8x1024 .f32) : sProp 𝕄 := ((c : Thread nD τ).loc cc0_scratch1) ↦{fullShare} f
def outPts (f : Vec F S1x1024 .f32) : sProp 𝕄 := ((c : Thread nD τ).loc cc0_stg0_0) ↦{fullShare} f

/-- While folding: `k` blocks have arrived and the running maximum is `f`. -/
def FoldSt (k : ℕ) (f : Vec F S8x1024 .f32) : sProp 𝕄 := iprop(Ow c 1 ∗ Walk (copyB c) (copyC m c) 0 8 k ∗ accPts c f)
/-- While sending: the transfers to the devices at the distances under `k` are in flight. -/
def SendSt (k : ℕ) : sProp 𝕄 := iprop(Ow c k ∗ Walk (sendA m c) (sendB c) 1 16 k)
/-- While collecting: the rows of the devices at the distances under `k` have arrived. -/
def RecvSt (k : ℕ) : sProp 𝕄 := iprop(Ow c 16 ∗ Walk (recvA c) (recvB m c) 1 16 k)
/-- At the end: the transfers to the devices at the distances under `k` have departed. -/
def DoneSt (k : ℕ) : sProp 𝕄 := iprop(Ow c 16 ∗ Walk (sendB c) (sendC m c) 1 16 k)

/-! ## Rules -/

variable {α : Type} {Q : α → sProp (MT nD τ sig Unit (Elt F) ℕ UU ℕ)} {kont : PUnit → Prog (TpuEff nD τ sig (Elt F) Λ₀ .tc) α}
  {R : sProp (MT nD τ sig Unit (Elt F) ℕ UU ℕ)}

/-- One program after another. -/
theorem seq {β : Type} {p : Prog (TpuEff nD τ sig (Elt F) Λ₀ .tc) β} {k : β → Prog (TpuEff nD τ sig (Elt F) Λ₀ .tc) α} {P : sProp 𝕄}
    {T : β → sProp 𝕄} (h : P ⊢ Runs c p T) (h' : ∀ b, T b ⊢ Runs c (k b) Q) : P ⊢ Runs c (p >>= k) Q := by
  unfold Runs at *
  rw [wp_bind]
  exact h.trans (wp_mono _ _ _ h')

/-- What is in hand may be taken in another order. -/
theorem swap {A B : sProp (MT nD τ sig Unit (Elt F) ℕ UU ℕ)} {p : Prog (TpuEff nD τ sig (Elt F) Λ₀ .tc) α}
    (h : iprop(ctx m ∗ B ∗ A ∗ R) ⊢ Runs c p Q) : iprop(ctx m ∗ A ∗ B ∗ R) ⊢ Runs c p Q := by
  iintro ⟨HC, HA, HB, HR⟩
  iapply h
  isplitl [HC]; · iexact HC
  isplitl [HB]; · iexact HB
  isplitl [HA] <;> iassumption

/-- The end of a part of the program. -/
theorem finish {P : sProp 𝕄} {a : α} (h : P ⊢ Q a) : P ⊢ Runs c (.ret a) Q := by
  unfold Runs
  rw [wp_ret]
  exact h.trans fupd_intro

/-- The barrier unit to the device at distance `k`. -/
theorem signal_step (k : ℕ) (h1 : 1 ≤ k) (h2 : k < 16) {n : Dev nD} (hn : n = peer c k) {amt : ℕ} (ha : 1 = amt)
    (h : iprop(ctx m ∗ SigSt c (k + 1) ∗ R) ⊢ Runs c (kont ⟨⟩) Q) :
    iprop(ctx m ∗ SigSt c k ∗ R) ⊢ Runs c (.op (.semSignal (Dev.tc n : Thread nD τ) barS amt) kont) Q := by
  subst hn ha
  unfold SigSt at *
  rw [bigSep_Ico_succ_bot h2]
  iintro ⟨#HC, ⟨⟨%W, HO⟩, ⟨Ht, Hs⟩, Hrest⟩, HR⟩
  ihave #Hc := (ctx_bar m (peer c k)) $$ HC
  icases Hc with ⟨%κ, #HI, #Hr⟩
  iapply (Rounds.wp_signal 𝒱₀ ER (ringRd m) (c : Thread nD τ) none (dst := (peer c k : Thread nD τ)) (κ := κ) (d := c)
      (by rw [duties_bar]; exact Finset.mem_erase.mpr ⟨(peer_ne c h1 h2).symm, Finset.mem_univ _⟩) rfl () (oBar c (k + 1) + oSend c 1)
      (oBar_step c h2 _)) $$ [HO Ht Hs]
  · isplitr; · iexact HI
    isplitl [HO]; · iexact HO
    isplitl [Ht]; · iexact Ht
    isplitl [Hs]; · rw [payload_bar]; unfold barPay; iexact Hs
    iexact Hr
  iintro HO
  iapply h
  isplitr; · iexact HC
  isplitl [HO Hrest]
  · isplitl [HO]; · iexists W; iexact HO
    iexact Hrest
  iexact HR

/-- The start of copy `k`. -/
theorem copy_step (k : ℕ) (hk : k < 8) {src : Memref sig .tc .hbm S512x1024 .f32} (hs : src = xBlk (bk k))
    {dst : Memref sig .tc .vmem S512x1024 .f32} (hd : dst = bufSlot (bk k)) {sm : DmaSem sig} (hm : sm = copyS (bk k))
    {hsrc : src.view.WordExact} {hdst : dst.view.WordExact} {hsem : DmaTarget.Typed .hbm (.dma sm) (.here dst : DmaTarget nD τ sig .tc .vmem S512x1024 .f32)}
    (h : iprop(ctx m ∗ Walk (copyA m c) (copyB c) 0 8 (k + 1) ∗ R) ⊢ Runs c (kont ⟨⟩) Q) :
    iprop(ctx m ∗ Walk (copyA m c) (copyB c) 0 8 k ∗ R) ⊢ Runs c (.op (.enqueueDma src (.here dst) (.dma sm) hsrc hdst hsem) kont) Q := by
  subst hs hd hm
  rw [walk_put _ _ (Nat.zero_le k)] at h
  rw [walk_take _ _ hk]
  unfold copyA copyB bufPts xPts at *
  iintro ⟨#HC, ⟨Hdone, ⟨Hat, Ht, ⟨%fd, Hb⟩, Hx⟩, Hrest⟩, HR⟩
  ihave #Hc := (ctx_dma m c (copyS (bk k)) (by rw [val_copyS]; omega)) $$ HC
  icases Hc with ⟨%κ, #HI, #Hr⟩
  iapply (Rounds.wp_copy_pointsTo 𝒱₀ ER (ringRd m) (c : Thread nD τ) none (src := xBlk (bk k)) (dst := bufSlot (bk k)) (sem := .dma (copyS (bk k))) (κ := κ) (r := 0) (d := 0) (fd := fd)
      (by rw [duties_copy]; exact Finset.mem_singleton_self _) () NB (by rw [View.amount_dma]; exact credit_buf (bk k)) (amount_copy m c (bk k) 0)
      (by
        rw [payload_copy]
        refine (Entails.of_eq ?_ : _ ⊢ copyPay m c (bk k))
        unfold copyPay
        rw [← bufPts_copied m c (bk k) fd]
        rfl)) $$ [Hx Hb Ht]
  · isplitr; · iexact HI
    isplitl [Hx]; · iexact Hx
    isplitl [Hb]; · iexact Hb
    isplitl [Ht]; · iexact Ht
    iexact Hr
  iintro Hcr
  iapply h
  isplitr; · iexact HC
  isplitr [HR]
  · isplitr [Hrest]
    · isplitr [Hdone]
      · isplitl [Hat] <;> iassumption
      iexact Hdone
    iexact Hrest
  iexact HR

/-- The wait for copy `k`. -/
theorem copied_step (k : ℕ) (hk : k < 8) {f : Vec F S8x1024 .f32} {src : Memref sig .tc .hbm S512x1024 .f32}
    {dst : Memref sig .tc .vmem S512x1024 .f32} (hd : dst = bufSlot (bk k)) {sm : DmaSem sig} (hm : sm = copyS (bk k))
    {hsrc : src.view.WordExact} {hdst : dst.view.WordExact}
    (h : iprop(ctx m ∗ FoldSt m c (k + 1) f ∗ R) ⊢ Runs c (kont ⟨⟩) Q) :
    iprop(ctx m ∗ FoldSt m c k f ∗ R) ⊢ Runs c (.op (.waitDma2 sm src dst hsrc hdst) kont) Q := by
  subst hd hm
  unfold FoldSt at *
  rw [walk_put _ _ (Nat.zero_le k)] at h
  rw [walk_take _ _ hk]
  unfold Ow copyB copyC at *
  iintro ⟨#HC, ⟨⟨%W, HO⟩, ⟨Hdone, ⟨Hat, Hcr⟩, Hrest⟩, Hacc⟩, HR⟩
  ihave #Hc := (ctx_dma m c (copyS (bk k)) (by rw [val_copyS]; omega)) $$ HC
  icases Hc with ⟨%κ, #HI, #Hr⟩
  iapply (Rounds.wp_wait_rest_token 𝒱₀ ER (ringRd m) (c : Thread nD τ) none (κ := κ)
      (wpE_waitDma2_eq 𝒱₀ (c : Thread nD τ) none Set.univ) (Set.mem_univ _) () (O := oSend c 1) (W := W) (R := 0) (m := 0) (T := ∅)
      (by rw [Nat.zero_add, expect_copy]; exact credit_buf (bk k))) $$ [Hcr HO Hat]
  · isplitr; · iexact HI
    isplitl [Hcr]; · rw [credit_buf]; iexact Hcr
    isplitl [HO]; · iexact HO
    isplitr
    · iapply (ctx_wait m c 1 (.dma (copyS (bk k))) (by rw [lv_copy]; exact Nat.zero_le 1))
      iexact HC
    iexact Hat
  iintro ⟨HO, Hat, -, Hpay⟩
  ihave Hp := (Entails.of_eq (rest_copy m c (bk k))) $$ Hpay
  unfold copyPay
  iapply h
  isplitr; · iexact HC
  isplitr [HR]
  · isplitl [HO]; · iexists _; iexact HO
    isplitr [Hacc]
    · isplitr [Hrest]
      · isplitr [Hdone]
        · isplitl [Hat] <;> iassumption
        iexact Hdone
      iexact Hrest
    iexact Hacc
  iexact HR

/-- The load of the block that arrived last. -/
theorem block_step (k : ℕ) {f : Vec F S8x1024 .f32} {off : Fin 3 → ℕ} (ho : off = ![(bk k).val, 0, 0])
    {inb : ∀ a, off a + S1x512x1024.size a ≤ S8x512x1024.size a}
    {hl : bufM.view.LoadsAt (Rect.unit (s := S8x512x1024) off S1x512x1024.size inb).toLoadRect}
    {kont : Vec F S1x512x1024 .f32 → Prog (TpuEff nD τ sig (Elt F) Λ₀ .tc) α}
    (h : iprop(ctx m ∗ FoldSt m c (k + 1) f ∗ R) ⊢ Runs c (kont (strip m c (bk k))) Q) :
    iprop(ctx m ∗ FoldSt m c (k + 1) f ∗ R)
      ⊢ Runs c (.op (.load bufM (Rect.unit (s := S8x512x1024) off S1x512x1024.size inb).toLoadRect hl) kont) Q := by
  subst ho
  unfold FoldSt at *
  rw [walk_put _ _ (Nat.zero_le k)] at *
  unfold copyC bufPts at *
  iintro ⟨#HC, ⟨HO, ⟨⟨⟨Hat, Hb, Hx⟩, Hdone⟩, Hrest⟩, Hacc⟩, HR⟩
  iapply (wp_load_rect 𝒱₀ (c : Thread nD τ) none Set.univ (m := bufM) (r := bufR (bk k))
    (S := (bufSlot (bk k)).view.set) (by rw [set_bufSlot, View.set_slice_whole])) $$ Hb
  iintro Hb
  iapply h
  isplitr; · iexact HC
  isplitr [HR]
  · isplitl [HO]; · iexact HO
    isplitr [Hacc]
    · isplitr [Hrest]
      · isplitr [Hdone]
        · isplitl [Hat]; · iexact Hat
          isplitl [Hb]; · iexact Hb
          iexact Hx
        iexact Hdone
      iexact Hrest
    iexact Hacc
  iexact HR

theorem off_zero : (![0, 0] : Fin 2 → ℕ) = fun _ => 0 := by funext a; revert a; decide

theorem acc_read (f : Vec F S8x1024 .f32) (inb : ∀ a, (![0, 0] : Fin 2 → ℕ) a + S8x1024.size a ≤ S8x1024.size a) :
    accM.view.readAt (Elt F) (Rect.unit (s := S8x1024) ![0, 0] S8x1024.size inb).toLoadRect f = f :=
  Memref.readAt_unit_zero (Elt F) cc0_scratch1 off_zero inb f
theorem acc_write (f w : Vec F S8x1024 .f32) (inb : ∀ a, (![0, 0] : Fin 2 → ℕ) a + S8x1024.size a ≤ S8x1024.size a) :
    (accM.access (Rect.unit (s := S8x1024) ![0, 0] S8x1024.size inb)).write (Elt F) f w Finset.univ = w :=
  Memref.write_access_unit_zero_univ (Elt F) cc0_scratch1 off_zero inb f w
theorem out_read (f : Vec F S1x1024 .f32) (inb : ∀ a, (![0, 0] : Fin 2 → ℕ) a + S1x1024.size a ≤ S1x1024.size a) :
    outM.view.readAt (Elt F) (Rect.unit (s := S1x1024) ![0, 0] S1x1024.size inb).toLoadRect f = f :=
  Memref.readAt_unit_zero (Elt F) cc0_stg0_0 off_zero inb f
theorem out_write (f w : Vec F S1x1024 .f32) (inb : ∀ a, (![0, 0] : Fin 2 → ℕ) a + S1x1024.size a ≤ S1x1024.size a) :
    (outM.access (Rect.unit (s := S1x1024) ![0, 0] S1x1024.size inb)).write (Elt F) f w Finset.univ = w :=
  Memref.write_access_unit_zero_univ (Elt F) cc0_stg0_0 off_zero inb f w

/-- A load of the running maximum. -/
theorem acc_load {k : ℕ} {f : Vec F S8x1024 .f32}
    {inb : ∀ a, (![0, 0] : Fin 2 → ℕ) a + S8x1024.size a ≤ S8x1024.size a}
    {hl : accM.view.LoadsAt (Rect.unit (s := S8x1024) ![0, 0] S8x1024.size inb).toLoadRect}
    {kont : Vec F S8x1024 .f32 → Prog (TpuEff nD τ sig (Elt F) Λ₀ .tc) α}
    (h : iprop(ctx m ∗ FoldSt m c k f ∗ R) ⊢ Runs c (kont f) Q) :
    iprop(ctx m ∗ FoldSt m c k f ∗ R)
      ⊢ Runs c (.op (.load accM (Rect.unit (s := S8x1024) ![0, 0] S8x1024.size inb).toLoadRect hl) kont) Q := by
  unfold FoldSt accPts at *
  iintro ⟨#HC, ⟨HO, HS, Hacc⟩, HR⟩
  iapply (wp_load 𝒱₀ (c : Thread nD τ) none Set.univ (m := accM) (Finset.subset_univ _)) $$ Hacc
  rw [acc_read]
  iintro Hacc
  iapply h
  isplitr; · iexact HC
  isplitr [HR]
  · isplitl [HO]; · iexact HO
    isplitl [HS] <;> iassumption
  iexact HR

/-- A store of the running maximum. -/
theorem acc_store {k : ℕ} {f w w' : Vec F S8x1024 .f32} (hw : w = w')
    {inb : ∀ a, (![0, 0] : Fin 2 → ℕ) a + S8x1024.size a ≤ S8x1024.size a}
    {hx : (accM.access (Rect.unit (s := S8x1024) ![0, 0] S8x1024.size inb)).Stores Finset.univ} {hm}
    (h : iprop(ctx m ∗ FoldSt m c k w' ∗ R) ⊢ Runs c (kont ⟨⟩) Q) :
    iprop(ctx m ∗ FoldSt m c k f ∗ R)
      ⊢ Runs c (.op (.store accM (Rect.unit (s := S8x1024) ![0, 0] S8x1024.size inb) w Finset.univ hx hm) kont) Q := by
  subst hw
  unfold FoldSt accPts at *
  iintro ⟨#HC, ⟨HO, HS, Hacc⟩, HR⟩
  iapply (wp_store 𝒱₀ (c : Thread nD τ) none Set.univ (m := accM) (r := Rect.unit (s := S8x1024) ![0, 0] S8x1024.size inb) (Mk := Finset.univ) (Finset.subset_univ _)) $$ Hacc
  rw [acc_write]
  iintro Hacc
  iapply h
  isplitr; · iexact HC
  isplitr [HR]
  · isplitl [HO]; · iexact HO
    isplitl [HS] <;> iassumption
  iexact HR

/-- A load of the result's buffer. -/
theorem out_load {f : Vec F S1x1024 .f32}
    {inb : ∀ a, (![0, 0] : Fin 2 → ℕ) a + S1x1024.size a ≤ S1x1024.size a}
    {hl : outM.view.LoadsAt (Rect.unit (s := S1x1024) ![0, 0] S1x1024.size inb).toLoadRect}
    {kont : Vec F S1x1024 .f32 → Prog (TpuEff nD τ sig (Elt F) Λ₀ .tc) α}
    (h : iprop(ctx m ∗ outPts c f ∗ R) ⊢ Runs c (kont f) Q) :
    iprop(ctx m ∗ outPts c f ∗ R)
      ⊢ Runs c (.op (.load outM (Rect.unit (s := S1x1024) ![0, 0] S1x1024.size inb).toLoadRect hl) kont) Q := by
  unfold outPts at *
  iintro ⟨#HC, Hout, HR⟩
  iapply (wp_load 𝒱₀ (c : Thread nD τ) none Set.univ (m := outM) (Finset.subset_univ _)) $$ Hout
  rw [out_read]
  iintro Hout
  iapply h
  isplitr; · iexact HC
  isplitl [Hout] <;> iassumption

/-- The store of the result. -/
theorem out_store {f w w' : Vec F S1x1024 .f32} (hw : w = w')
    {inb : ∀ a, (![0, 0] : Fin 2 → ℕ) a + S1x1024.size a ≤ S1x1024.size a}
    {hx : (outM.access (Rect.unit (s := S1x1024) ![0, 0] S1x1024.size inb)).Stores Finset.univ} {hm}
    (h : iprop(ctx m ∗ outPts c w' ∗ R) ⊢ Runs c (kont ⟨⟩) Q) :
    iprop(ctx m ∗ outPts c f ∗ R)
      ⊢ Runs c (.op (.store outM (Rect.unit (s := S1x1024) ![0, 0] S1x1024.size inb) w Finset.univ hx hm) kont) Q := by
  subst hw
  unfold outPts at *
  iintro ⟨#HC, Hout, HR⟩
  iapply (wp_store 𝒱₀ (c : Thread nD τ) none Set.univ (m := outM) (r := Rect.unit (s := S1x1024) ![0, 0] S1x1024.size inb) (Mk := Finset.univ) (Finset.subset_univ _)) $$ Hout
  rw [out_write]
  iintro Hout
  iapply h
  isplitr; · iexact HC
  isplitl [Hout] <;> iassumption

/-- A load of a slot of the exchange buffer, whatever is in it. -/
theorem slot_load {s : Dev nD} {q : PosShare TreeShare} {f : Buf (Elt F) ((c : Thread nD τ).loc cc0_scratch2)} {off : Fin 3 → ℕ}
    (ho : off = ![s.val, 0, 0]) {inb : ∀ a, off a + S1x1x1024.size a ≤ S16x1x1024.size a}
    {hl : commM.view.LoadsAt (Rect.unit (s := S16x1x1024) off S1x1x1024.size inb).toLoadRect}
    {kont : Vec F S1x1x1024 .f32 → Prog (TpuEff nD τ sig (Elt F) Λ₀ .tc) α}
    (h : iprop(ctx m ∗ commPts c s q f ∗ R) ⊢ Runs c (kont ((commM.access (commR s)).read (Elt F) f)) Q) :
    iprop(ctx m ∗ commPts c s q f ∗ R)
      ⊢ Runs c (.op (.load commM (Rect.unit (s := S16x1x1024) off S1x1x1024.size inb).toLoadRect hl) kont) Q := by
  subst ho
  unfold commPts at *
  iintro ⟨#HC, Hs, HR⟩
  iapply (wp_load_rect 𝒱₀ (c : Thread nD τ) none Set.univ (m := commM) (r := commR s)
    (S := (commSlot s).view.set) (by rw [set_commSlot, View.set_slice_whole])) $$ Hs
  iintro Hs
  iapply h
  isplitr; · iexact HC
  isplitl [Hs] <;> iassumption

/-- A slot holding a device's row reads as that row. -/
theorem read_row (s : Dev nD) : (commM.access (commR s)).read (Elt F) (rowV m c s) = rowAt m s := by
  unfold rowV; exact View.read_write_univ _ _

/-- A load of a slot holding a row. -/
theorem row_load {s : Dev nD} {q : PosShare TreeShare} {off : Fin 3 → ℕ}
    (ho : off = ![s.val, 0, 0]) {inb : ∀ a, off a + S1x1x1024.size a ≤ S16x1x1024.size a}
    {hl : commM.view.LoadsAt (Rect.unit (s := S16x1x1024) off S1x1x1024.size inb).toLoadRect}
    {kont : Vec F S1x1x1024 .f32 → Prog (TpuEff nD τ sig (Elt F) Λ₀ .tc) α}
    (h : iprop(ctx m ∗ commPts c s q (rowV m c s) ∗ R) ⊢ Runs c (kont (rowAt m s)) Q) :
    iprop(ctx m ∗ commPts c s q (rowV m c s) ∗ R)
      ⊢ Runs c (.op (.load commM (Rect.unit (s := S16x1x1024) off S1x1x1024.size inb).toLoadRect hl) kont) Q :=
  slot_load m c ho (by rw [read_row]; exact h)

/-- The store of the device's row to its own slot. -/
theorem row_store {f : Buf (Elt F) ((c : Thread nD τ).loc cc0_scratch2)} {off : Fin 3 → ℕ}
    (ho : off = ![c.val, 0, 0]) {inb : ∀ a, off a + S1x1x1024.size a ≤ S16x1x1024.size a} {w : Vec F S1x1x1024 .f32} (hw : w = rowAt m c)
    {hx : (commM.access (Rect.unit (s := S16x1x1024) off S1x1x1024.size inb)).Stores Finset.univ} {hm}
    (h : iprop(ctx m ∗ commPts c c fullShare (rowV m c c) ∗ R) ⊢ Runs c (kont ⟨⟩) Q) :
    iprop(ctx m ∗ commPts c c fullShare f ∗ R)
      ⊢ Runs c (.op (.store commM (Rect.unit (s := S16x1x1024) off S1x1x1024.size inb) w Finset.univ hx hm) kont) Q := by
  subst ho hw
  rw [← commPts_row m c c fullShare f] at h
  unfold commPts at *
  iintro ⟨#HC, Hs, HR⟩
  iapply (wp_store 𝒱₀ (c : Thread nD τ) none Set.univ (m := commM) (r := commR c)
    (S := (commSlot c).view.set) (by rw [View.setOn_univ, set_commSlot, View.set_slice_whole])) $$ Hs
  iintro Hs
  iapply h
  isplitr; · iexact HC
  isplitl [Hs] <;> iassumption

/-- Before and after the barrier. -/
def BarSt : sProp 𝕄 := iprop(Ow c 1 ∗ atPos ER (barCell c) 0 ∅ 0 ∗ cred (tallyAt (barCell c) () 15))
def MetSt : sProp 𝕄 := iprop(Ow c 1 ∗ atPos ER (barCell c) 1 ∅ 0
  ∗ bigSep (Finset.Ico 1 16) fun d => iprop(∃ f, commPts (F := F) (peer c d) c fullShare f))

/-- The wait at the barrier: every other device's exchange buffer has the device's slot free. -/
theorem barrier_step {amt : ℕ} (ha : 15 = amt) (h : iprop(ctx m ∗ MetSt c ∗ R) ⊢ Runs c (kont ⟨⟩) Q) :
    iprop(ctx m ∗ BarSt c ∗ R) ⊢ Runs c (.op (.semWait barS amt) kont) Q := by
  subst ha
  unfold BarSt MetSt Ow at *
  iintro ⟨#HC, ⟨⟨%W, HO⟩, Hat, Hcr⟩, HR⟩
  ihave #Hc := (ctx_bar m c) $$ HC
  icases Hc with ⟨%κ, #HI, #Hr⟩
  iapply (Rounds.wp_wait_rest_token 𝒱₀ ER (ringRd m) (c : Thread nD τ) none (κ := κ)
      (wpE_semWait_eq 𝒱₀ (c : Thread nD τ) none Set.univ) (Set.mem_univ _) () (O := oSend c 1) (W := W) (R := 0) (m := 0) (T := ∅)
      (by rw [Nat.zero_add, expect_bar])) $$ [Hcr HO Hat]
  · isplitr; · iexact HI
    isplitl [Hcr]; · iexact Hcr
    isplitl [HO]; · iexact HO
    isplitr
    · iapply (ctx_wait m c 1 (.reg barS) (by rw [lv_bar]))
      iexact HC
    iexact Hat
  iintro ⟨HO, Hat, -, Hpay⟩
  ihave Hp := (Entails.of_eq (rest_bar m c)) $$ Hpay
  iapply h
  isplitr; · iexact HC
  isplitr [HR]
  · isplitl [HO]; · iexists _; iexact HO
    isplitl [Hat] <;> iassumption
  iexact HR

/-- The transfer of the device's row to the device at distance `k`. -/
theorem send_step (k : ℕ) (h1 : 1 ≤ k) (h2 : k < 16) {n : Dev nD} (hn : n = peer c k)
    {src : Memref sig .tc .vmem S1x1024 .f32} (hs : src = commSlot c)
    {dst : Memref sig (Dev.tc n : Thread nD τ).2.kind .vmem S1x1024 .f32} (hd : dst = commSlot c)
    {sS sR : DmaSem sig} (hS : sS = sendS k) (hR : sR = recvS c)
    {hsc : dst.view.ref.isScScratch = false} {hsrc : src.view.WordExact} {hdst : dst.view.WordExact}
    {hsem : DmaTarget.Typed .vmem (.dma sR) (.remote (Dev.tc n : Thread nD τ) dst (.dma sS) hsc)}
    (h : iprop(ctx m ∗ SendSt m c (k + 1) ∗ R) ⊢ Runs c (kont ⟨⟩) Q) :
    iprop(ctx m ∗ SendSt m c k ∗ R)
      ⊢ Runs c (.op (.enqueueDma src (.remote (Dev.tc n : Thread nD τ) dst (.dma sS) hsc) (.dma sR) hsrc hdst hsem) kont) Q := by
  subst hn hs hd hS hR
  unfold SendSt at *
  rw [walk_put _ _ h1] at h
  rw [walk_take _ _ h2]
  unfold sendA sendB Ow commPts at *
  iintro ⟨#HC, ⟨⟨%W, HO⟩, ⟨Hdone, ⟨Hat, Ht, Ht', ⟨%fd, Hd⟩, Hs⟩, Hrest⟩⟩, HR⟩
  ihave #Hc := (ctx_dma m c (sendS k) (by rw [val_sendS h2]; omega)) $$ HC
  icases Hc with ⟨%κ, #HI, #Hr⟩
  ihave #Hc' := (ctx_dma m (peer c k) (recvS c) (by rw [val_recvS]; omega)) $$ HC
  icases Hc' with ⟨%κ', #HI', #Hr'⟩
  iapply (Rounds.wp_send_pointsTo 𝒱₀ ER (ringRd m) (c : Thread nD τ) none (c' := (peer c k : Thread nD τ)) (src := commSlot c) (dst := commSlot c)
      (sS := .dma (sendS k)) (sem := .dma (recvS c)) (κ₁ := κ) (κ₂ := κ') (r₁ := 0) (r₂ := 0) (d₁ := 0) (d₂ := 0) (fs := rowV m c c) (fd := fd)
      (by rw [duties_send m c h1 h2]; exact Finset.mem_singleton_self _)
      (by rw [duties_recv m (peer c k) c (peer_ne c h1 h2).symm]; exact Finset.mem_singleton_self _)
      () () NC (by rw [View.amount_dma]; exact credit_comm c) (amount_send m c h1 h2 0) (amount_recv m (peer c k) c 0) (oSend c (k + 1))
      (oSend_step c h2) (W := W)
      (by rw [payload_send m c h1 h2]; exact BI.Entails.refl _)
      (by
        rw [payload_recv]
        refine (Entails.of_eq ?_ : _ ⊢ recvPay m (peer c k) c)
        unfold recvPay
        rw [← commPts_sent m (peer c k) c c fd]
        rfl)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hcr, HO⟩
  iapply h
  isplitr; · iexact HC
  isplitr [HR]
  · isplitl [HO]; · iexists W; iexact HO
    isplitr [Hrest]
    · isplitr [Hdone]
      · isplitl [Hat] <;> iassumption
      iexact Hdone
    iexact Hrest
  iexact HR

/-- The wait for the row of the device at distance `k`. -/
theorem recv_step (k : ℕ) (h1 : 1 ≤ k) (h2 : k < 16) {sp : Space} {s' : Shape} {e' : EltTy} {src : Memref sig .tc sp s' e'}
    {dst : Memref sig .tc .vmem S1x1024 .f32} (hd : dst = commSlot (peer c k)) {sm : DmaSem sig} (hm : sm = recvS (peer c k))
    {hsrc : src.view.WordExact} {hdst : dst.view.WordExact}
    (h : iprop(ctx m ∗ RecvSt m c (k + 1) ∗ R) ⊢ Runs c (kont ⟨⟩) Q) :
    iprop(ctx m ∗ RecvSt m c k ∗ R) ⊢ Runs c (.op (.waitDma2 sm src dst hsrc hdst) kont) Q := by
  subst hd hm
  unfold RecvSt at *
  rw [walk_put _ _ h1] at h
  rw [walk_take _ _ h2]
  unfold Ow recvA recvB at *
  rw [oSend_end] at *
  iintro ⟨#HC, ⟨⟨%W, HO⟩, Hdone, ⟨Hat, Hcr⟩, Hrest⟩, HR⟩
  ihave #Hc := (ctx_dma m c (recvS (peer c k)) (by rw [val_recvS]; omega)) $$ HC
  icases Hc with ⟨%κ, #HI, #Hr⟩
  iapply (Rounds.wp_wait_rest_token 𝒱₀ ER (ringRd m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv m c _ (peer_ne c h1 h2)]; exact credit_comm _)) $$ [Hcr HO Hat]
  · isplitr; · iexact HI
    isplitl [Hcr]; · rw [credit_comm]; iexact Hcr
    isplitl [HO]; · iexact HO
    isplitr; · rw [MayWait_zero]; iempintro
    iexact Hat
  iintro ⟨HO, Hat, -, Hpay⟩
  ihave Hp := (Entails.of_eq (rest_recv m c _ (peer_ne c h1 h2))) $$ Hpay
  unfold recvPay
  iapply h
  isplitr; · iexact HC
  isplitr [HR]
  · isplitl [HO]; · iexists _; iexact HO
    isplitr [Hrest]
    · isplitr [Hdone]
      · isplitl [Hat] <;> iassumption
      iexact Hdone
    iexact Hrest
  iexact HR

/-- The load of the row that arrived last. -/
theorem arrived_load (k : ℕ) (h1 : 1 ≤ k) {off : Fin 3 → ℕ}
    (ho : off = ![(peer c k).val, 0, 0]) {inb : ∀ a, off a + S1x1x1024.size a ≤ S16x1x1024.size a}
    {hl : commM.view.LoadsAt (Rect.unit (s := S16x1x1024) off S1x1x1024.size inb).toLoadRect}
    {kont : Vec F S1x1x1024 .f32 → Prog (TpuEff nD τ sig (Elt F) Λ₀ .tc) α}
    (h : iprop(ctx m ∗ RecvSt m c (k + 1) ∗ R) ⊢ Runs c (kont (rowAt m (peer c k))) Q) :
    iprop(ctx m ∗ RecvSt m c (k + 1) ∗ R)
      ⊢ Runs c (.op (.load commM (Rect.unit (s := S16x1x1024) off S1x1x1024.size inb).toLoadRect hl) kont) Q := by
  have hS : RecvSt m c (k + 1) = (iprop(Ow c 16 ∗ ((atPos ER (recvCell c (peer c k)) 1 ∅ 0 ∗ commPts c (peer c k) fullShare (rowV m c (peer c k)))
      ∗ bigSep (Finset.Ico 1 k) (recvB m c)) ∗ bigSep (Finset.Ico (k + 1) 16) (recvA c)) : sProp 𝕄) := by
    unfold RecvSt; rw [walk_put _ _ h1]; rfl
  have h' : iprop(ctx m ∗ commPts c (peer c k) fullShare (rowV m c (peer c k)) ∗ Ow c 16 ∗ atPos ER (recvCell c (peer c k)) 1 ∅ 0
      ∗ bigSep (Finset.Ico 1 k) (recvB m c) ∗ bigSep (Finset.Ico (k + 1) 16) (recvA c) ∗ R)
      ⊢ Runs c (.op (.load commM (Rect.unit (s := S16x1x1024) off S1x1x1024.size inb).toLoadRect hl) kont) Q := row_load m c ho (by
    rw [hS] at h
    iintro ⟨HC, Hs, HO, Hat, Hdone, Hrest, HR⟩
    iapply h
    isplitl [HC]; · iexact HC
    isplitr [HR]
    · isplitl [HO]; · iexact HO
      isplitr [Hrest]
      · isplitr [Hdone]
        · isplitl [Hat] <;> iassumption
        iexact Hdone
      iexact Hrest
    iexact HR)
  rw [hS]
  iintro ⟨HC, ⟨HO, ⟨⟨Hat, Hs⟩, Hdone⟩, Hrest⟩, HR⟩
  iapply h'
  isplitl [HC]; · iexact HC
  isplitl [Hs]; · iexact Hs
  isplitl [HO]; · iexact HO
  isplitl [Hat]; · iexact Hat
  isplitl [Hdone]; · iexact Hdone
  isplitl [Hrest]; · iexact Hrest
  iexact HR

/-- The wait for the departure of the transfer to the device at distance `k`. -/
theorem sent_step (k : ℕ) (h1 : 1 ≤ k) (h2 : k < 16) {sp : Space} {s' : Shape} {e' : EltTy} {src : Memref sig .tc sp s' e'}
    {dst : Memref sig .tc .vmem S1x1024 .f32} (hd : dst = commSlot c) {sm : DmaSem sig} (hm : sm = sendS k)
    {hsrc : src.view.WordExact} {hdst : dst.view.WordExact}
    (h : iprop(ctx m ∗ DoneSt m c (k + 1) ∗ R) ⊢ Runs c (kont ⟨⟩) Q) :
    iprop(ctx m ∗ DoneSt m c k ∗ R) ⊢ Runs c (.op (.waitDma2 sm src dst hsrc hdst) kont) Q := by
  subst hd hm
  unfold DoneSt at *
  rw [walk_put _ _ h1] at h
  rw [walk_take _ _ h2]
  unfold Ow sendB sendC at *
  rw [oSend_end] at *
  iintro ⟨#HC, ⟨⟨%W, HO⟩, Hdone, ⟨Hat, Hcr⟩, Hrest⟩, HR⟩
  ihave #Hc := (ctx_dma m c (sendS k) (by rw [val_sendS h2]; omega)) $$ HC
  icases Hc with ⟨%κ, #HI, #Hr⟩
  iapply (Rounds.wp_wait_rest_token 𝒱₀ ER (ringRd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send m c h1 h2]; exact credit_comm _)) $$ [Hcr HO Hat]
  · isplitr; · iexact HI
    isplitl [Hcr]; · rw [credit_comm]; iexact Hcr
    isplitl [HO]; · iexact HO
    isplitr; · rw [MayWait_zero]; iempintro
    iexact Hat
  iintro ⟨HO, Hat, -, Hpay⟩
  ihave Hp := (Entails.of_eq (rest_send m c h1 h2)) $$ Hpay
  unfold sendPay
  iapply h
  isplitr; · iexact HC
  isplitr [HR]
  · isplitl [HO]; · iexists _; iexact HO
    isplitr [Hrest]
    · isplitr [Hdone]
      · isplitl [Hat] <;> iassumption
      iexact Hdone
    iexact Hrest
  iexact HR

end Cert.MaxRing
-- ==== Proof.Parts.lean ====
/-
# The body, part by part

The kernel's body is printed in parts. Each theorem here carries one part from the state before it to the state after it,
whatever follows.
-/
module

public import proofs.«01_k».proof.Proof.Steps

@[expose] public section

noncomputable section

namespace Cert.MaxRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

/-- A part of the body at the buffers and semaphores the kernel is called on. -/
abbrev At {β : Sort _} (p : (arg0 : Memref sig .tc .hbm S4096x1024 .f32) → arg0.IsWhole → (arg1 : Memref sig .tc .vmem S1x1024 .f32) → arg1.IsWhole
    → (arg2 : Memref sig .tc .vmem S8x512x1024 .f32) → arg2.IsWhole → (arg3 : Memref sig .tc .vmem S8x1024 .f32) → arg3.IsWhole
    → (arg4 : Memref sig .tc .vmem S16x1x1024 .f32) → arg4.IsWhole → DmaSems sig S8 → DmaSems sig S16 → DmaSems sig S16 → β) : β :=
  p xM (Memref.isWhole_whole _) outM (Memref.isWhole_whole _) bufM (Memref.isWhole_whole _) accM (Memref.isWhole_whole _)
    commM (Memref.isWhole_whole _) cc0_scratch3 cc0_scratch4 cc0_scratch5

/-! ## The operands the printed offsets name -/

theorem slot_at (s : Dev nD) {off : Fin 3 → ℕ} (h : off = ![s.val, 0, 0]) (inb : ∀ a, off a + S1x1x1024.size a ≤ S16x1x1024.size a) :
    (commM.slice (Rect.unit (s := S16x1x1024) off S1x1x1024.size inb) (fun _ => rfl)).squeeze S1x1024 squeezes_S1x1x1024_S1x1024 = commSlot s := by
  subst h; rfl
theorem sem_at (s : Dev nD) {off : Fin 1 → ℕ} (h : off = ![s.val]) (inb : ∀ a, off a + S1.size a ≤ S16.size a) :
    (((cc0_scratch5 : DmaSems sig S16).slice (Rect.unit (s := S16) off S1.size inb)).squeeze S_ squeezes_S1_S_).sem = recvS s := by
  subst h; exact recv_entry s inb

variable (m : (ℓ : Loc nD τ sig) → Buf (Elt F) ℓ) (c : Dev nD)

variable {α : Type} {Q : α → sProp (MT nD τ sig Unit (Elt F) ℕ UU ℕ)} {R : sProp (MT nD τ sig Unit (Elt F) ℕ UU ℕ)}

abbrev bar0 : Sems sig S_ := SemArray.scalar (sig.barrier 0 rfl)

/-! ## The units of the barrier and the copies -/

/-- The first five units. -/
theorem part1 {kont : (Σ' (_ : Dev nD) (_ : BitVec 32) (_ : Sems sig S_) (_ : BitVec 32), BitVec 32) → Prog (TpuEff nD τ sig (Elt F) Λ₀ .tc) α}
    (h : ∀ v w u, iprop(ctx m ∗ SigSt c 6 ∗ R) ⊢ Runs c (kont ⟨c, v, bar0, w, u⟩) Q) :
    iprop(ctx m ∗ SigSt c 1 ∗ R) ⊢ Runs c (At (k0_part1 (F := F)) >>= kont) Q := by
  rw [k0_part1_eq_skeleton]; unfold k0_part1_skel
  simp only [semSignalWord, semWaitWord, Prog.lift, Prog.bind_op, Prog.bind_ret, Prog.pure_eq_ret, wp_deviceId]
  refine signal_step m c 1 (by decide) (by decide) (Fin.ext (k0_dev1_eq c)) rfl ?_
  refine signal_step m c 2 (by decide) (by decide) (Fin.ext (k0_dev2_eq c)) rfl ?_
  refine signal_step m c 3 (by decide) (by decide) (Fin.ext (k0_dev3_eq c)) rfl ?_
  refine signal_step m c 4 (by decide) (by decide) (Fin.ext (k0_dev4_eq c)) rfl ?_
  refine signal_step m c 5 (by decide) (by decide) (Fin.ext (k0_dev5_eq c)) rfl ?_
  exact h _ _ _

/-- The next six. -/
theorem part2 {v w u : BitVec 32} {kont : (Σ' (_ : BitVec 32), BitVec 32) → Prog (TpuEff nD τ sig (Elt F) Λ₀ .tc) α}
    (h : ∀ v w, iprop(ctx m ∗ SigSt c 12 ∗ R) ⊢ Runs c (kont ⟨v, w⟩) Q) :
    iprop(ctx m ∗ SigSt c 6 ∗ R) ⊢ Runs c (At (k0_part2 (F := F)) c v bar0 w u >>= kont) Q := by
  rw [k0_part2_eq_skeleton]; unfold k0_part2_skel
  simp only [semSignalWord, semWaitWord, Prog.lift, Prog.bind_op, Prog.bind_ret, Prog.pure_eq_ret, wp_deviceId]
  refine signal_step m c 6 (by decide) (by decide) (Fin.ext (k0_dev6_eq c)) rfl ?_
  refine signal_step m c 7 (by decide) (by decide) (Fin.ext (k0_dev7_eq c)) rfl ?_
  refine signal_step m c 8 (by decide) (by decide) (Fin.ext (k0_dev8_eq c)) rfl ?_
  refine signal_step m c 9 (by decide) (by decide) (Fin.ext (k0_dev9_eq c)) rfl ?_
  refine signal_step m c 10 (by decide) (by decide) (Fin.ext (k0_dev10_eq c)) rfl ?_
  refine signal_step m c 11 (by decide) (by decide) (Fin.ext (k0_dev11_eq c)) rfl ?_
  exact h _ _

/-- The last four, and the first copy. -/
theorem part3 {v w u : BitVec 32} {kont : PUnit → Prog (TpuEff nD τ sig (Elt F) Λ₀ .tc) α}
    (h : iprop(ctx m ∗ Walk (copyA m c) (copyB c) 0 8 1 ∗ SigSt c 16 ∗ R) ⊢ Runs c (kont ⟨⟩) Q) :
    iprop(ctx m ∗ SigSt c 12 ∗ Walk (copyA m c) (copyB c) 0 8 0 ∗ R) ⊢ Runs c (At (k0_part3 (F := F)) c v bar0 w u >>= kont) Q := by
  rw [k0_part3_eq_skeleton]; unfold k0_part3_skel
  simp only [semSignalWord, semWaitWord, Prog.lift, Prog.bind_op, Prog.bind_ret, Prog.pure_eq_ret, wp_deviceId]
  refine signal_step m c 12 (by decide) (by decide) (Fin.ext (k0_dev12_eq c)) rfl ?_
  refine signal_step m c 13 (by decide) (by decide) (Fin.ext (k0_dev13_eq c)) rfl ?_
  refine signal_step m c 14 (by decide) (by decide) (Fin.ext (k0_dev14_eq c)) rfl ?_
  refine signal_step m c 15 (by decide) (by decide) (Fin.ext (k0_dev15_eq c)) rfl ?_
  refine swap m c ?_
  refine copy_step m c 0 (by decide) rfl rfl (copy_entry 0 _) ?_
  exact h

/-- Five copies more. -/
theorem part4 {kont : PUnit → Prog (TpuEff nD τ sig (Elt F) Λ₀ .tc) α}
    (h : iprop(ctx m ∗ Walk (copyA m c) (copyB c) 0 8 6 ∗ R) ⊢ Runs c (kont ⟨⟩) Q) :
    iprop(ctx m ∗ Walk (copyA m c) (copyB c) 0 8 1 ∗ R) ⊢ Runs c (At (k0_part4 (F := F)) >>= kont) Q := by
  rw [k0_part4_eq_skeleton]; unfold k0_part4_skel
  simp only [semSignalWord, semWaitWord, Prog.lift, Prog.bind_op, Prog.bind_ret, Prog.pure_eq_ret, wp_deviceId]
  refine copy_step m c 1 (by decide) rfl rfl (copy_entry 1 _) ?_
  refine copy_step m c 2 (by decide) rfl rfl (copy_entry 2 _) ?_
  refine copy_step m c 3 (by decide) rfl rfl (copy_entry 3 _) ?_
  refine copy_step m c 4 (by decide) rfl rfl (copy_entry 4 _) ?_
  refine copy_step m c 5 (by decide) rfl rfl (copy_entry 5 _) ?_
  exact h

/-- All the copies in flight, the barrier signalled: the fold may begin. -/
theorem to_fold {f : Vec F S8x1024 .f32} {p : Prog (TpuEff nD τ sig (Elt F) Λ₀ .tc) α} (h : iprop(ctx m ∗ FoldSt m c 0 f ∗ R) ⊢ Runs c p Q) :
    iprop(ctx m ∗ Walk (copyA m c) (copyB c) 0 8 8 ∗ SigSt c 16 ∗ accPts c f ∗ R) ⊢ Runs c p Q := by
  iintro ⟨HC, HW, HS, Hacc, HR⟩
  iapply h
  isplitl [HC]; · iexact HC
  isplitr [HR]
  · unfold FoldSt
    isplitl [HS]
    · unfold SigSt Ow
      icases HS with ⟨⟨%W, HO⟩, -⟩
      iexists W
      rw [oBar_end, zero_add]
      iexact HO
    isplitl [HW]
    · iapply (walk_start (copyB c) (copyC m c) 0 8)
      iapply (walk_end (copyA m c) (copyB c) 0 8)
      iexact HW
    iexact Hacc
  iexact HR

/-- The last two copies; the first block folded, the second arrived. -/
theorem part5 {f : Vec F S8x1024 .f32} {kont : FVec F S8x1024 .f32 → Prog (TpuEff nD τ sig (Elt F) Λ₀ .tc) α}
    (h : iprop(ctx m ∗ FoldSt m c 2 (accAt m c 0) ∗ R) ⊢ Runs c (kont (k0_pay2 (strip m c (bk 1)))) Q) :
    iprop(ctx m ∗ Walk (copyA m c) (copyB c) 0 8 6 ∗ SigSt c 16 ∗ accPts c f ∗ R) ⊢ Runs c (At (k0_part5 (F := F)) >>= kont) Q := by
  rw [k0_part5_eq_skeleton]; unfold k0_part5_skel
  simp only [semSignalWord, semWaitWord, Prog.lift, Prog.bind_op, Prog.bind_ret, Prog.pure_eq_ret, wp_deviceId]
  refine copy_step m c 6 (by decide) rfl rfl (copy_entry 6 _) ?_
  refine copy_step m c 7 (by decide) rfl rfl (copy_entry 7 _) ?_
  refine to_fold m c ?_
  refine copied_step m c 0 (by decide) rfl (copy_entry 0 _) ?_
  refine block_step m c 0 rfl ?_
  refine acc_load m c ?_
  refine acc_store m c (w' := accAt m c 0) rfl ?_
  refine copied_step m c 1 (by decide) rfl (copy_entry 1 _) ?_
  refine block_step m c 1 rfl ?_
  exact h

/-- Two blocks folded, the next arrived. -/
theorem part6 {kont : FVec F S8x1024 .f32 → Prog (TpuEff nD τ sig (Elt F) Λ₀ .tc) α}
    (h : iprop(ctx m ∗ FoldSt m c 4 (accAt m c 2) ∗ R) ⊢ Runs c (kont (k0_pay2 (strip m c (bk 3)))) Q) :
    iprop(ctx m ∗ FoldSt m c 2 (accAt m c 0) ∗ R) ⊢ Runs c (At (k0_part6 (F := F)) (k0_pay2 (strip m c (bk 1))) >>= kont) Q := by
  rw [k0_part6_eq_skeleton]; unfold k0_part6_skel
  simp only [semSignalWord, semWaitWord, Prog.lift, Prog.bind_op, Prog.bind_ret, Prog.pure_eq_ret, wp_deviceId]
  refine acc_load m c ?_
  refine acc_load m c ?_
  refine acc_store m c (w' := accAt m c 1) rfl ?_
  refine copied_step m c 2 (by decide) rfl (copy_entry 2 _) ?_
  refine block_step m c 2 rfl ?_
  refine acc_load m c ?_
  refine acc_load m c ?_
  refine acc_store m c (w' := accAt m c 2) rfl ?_
  refine copied_step m c 3 (by decide) rfl (copy_entry 3 _) ?_
  refine block_step m c 3 rfl ?_
  exact h

/-- Two blocks folded, the next arrived. -/
theorem part7 {kont : FVec F S8x1024 .f32 → Prog (TpuEff nD τ sig (Elt F) Λ₀ .tc) α}
    (h : iprop(ctx m ∗ FoldSt m c 6 (accAt m c 4) ∗ R) ⊢ Runs c (kont (k0_pay2 (strip m c (bk 5)))) Q) :
    iprop(ctx m ∗ FoldSt m c 4 (accAt m c 2) ∗ R) ⊢ Runs c (At (k0_part7 (F := F)) (k0_pay2 (strip m c (bk 3))) >>= kont) Q := by
  rw [k0_part7_eq_skeleton]; unfold k0_part7_skel
  simp only [semSignalWord, semWaitWord, Prog.lift, Prog.bind_op, Prog.bind_ret, Prog.pure_eq_ret, wp_deviceId]
  refine acc_load m c ?_
  refine acc_load m c ?_
  refine acc_store m c (w' := accAt m c 3) rfl ?_
  refine copied_step m c 4 (by decide) rfl (copy_entry 4 _) ?_
  refine block_step m c 4 rfl ?_
  refine acc_load m c ?_
  refine acc_load m c ?_
  refine acc_store m c (w' := accAt m c 4) rfl ?_
  refine copied_step m c 5 (by decide) rfl (copy_entry 5 _) ?_
  refine block_step m c 5 rfl ?_
  exact h

/-- Two blocks folded, the last arrived. -/
theorem part8 {kont : FVec F S8x1024 .f32 → Prog (TpuEff nD τ sig (Elt F) Λ₀ .tc) α}
    (h : iprop(ctx m ∗ FoldSt m c 8 (accAt m c 6) ∗ R) ⊢ Runs c (kont (k0_pay2 (strip m c (bk 7)))) Q) :
    iprop(ctx m ∗ FoldSt m c 6 (accAt m c 4) ∗ R) ⊢ Runs c (At (k0_part8 (F := F)) (k0_pay2 (strip m c (bk 5))) >>= kont) Q := by
  rw [k0_part8_eq_skeleton]; unfold k0_part8_skel
  simp only [semSignalWord, semWaitWord, Prog.lift, Prog.bind_op, Prog.bind_ret, Prog.pure_eq_ret, wp_deviceId]
  refine acc_load m c ?_
  refine acc_load m c ?_
  refine acc_store m c (w' := accAt m c 5) rfl ?_
  refine copied_step m c 6 (by decide) rfl (copy_entry 6 _) ?_
  refine block_step m c 6 rfl ?_
  refine acc_load m c ?_
  refine acc_load m c ?_
  refine acc_store m c (w' := accAt m c 6) rfl ?_
  refine copied_step m c 7 (by decide) rfl (copy_entry 7 _) ?_
  refine block_step m c 7 rfl ?_
  exact h

/-! ## The barrier and the transfers -/

/-- What is left of the device's row while its shares travel. -/
def ownSh : sProp 𝕄 := commPts c c (shareDrop fullShare 15) (rowV m c c)
/-- The rights of the transfer to the device at distance `d`. -/
def sendP (d : ℕ) : sProp 𝕄 :=
  iprop(atPos ER (sendCell c d) 0 ∅ 0 ∗ dutyTok ER (sendCell c d) 0 0 ∗ dutyTok ER (recvCell (peer c d) c) 0 0)
def BarP : sProp 𝕄 := iprop(atPos ER (barCell c) 0 ∅ 0 ∗ cred (tallyAt (barCell c) () 15))
/-- Before the exchange: the device's own slot, the barrier, the rights of the transfers. -/
def OwnSt : sProp 𝕄 := iprop((∃ f, commPts (F := F) c c fullShare f) ∗ BarP c ∗ bigSep (Finset.Ico 1 16) (sendP c))
/-- What rests from the fold and the barrier on. -/
def HeldSt : sProp 𝕄 :=
  iprop(bigSep (Finset.Ico 0 8) (copyC m c) ∗ accPts c (accAt m c 7) ∗ atPos ER (barCell c) 1 ∅ 0)

theorem bigSep_shift {M : Type} [URA M] (Φ : ℕ → sProp M) :
    bigSep (Finset.Ico 1 16) (fun d => Φ (d - 1)) = bigSep (Finset.range 15) Φ := by
  rw [show Finset.Ico 1 16 = (Finset.range 15).image (· + 1) by decide, bigSep_image_of_injOn fun a _ b _ h => Nat.succ_injective h]
  rfl

/-- A slot is fifteen shares and what is left. -/
theorem commPts_shares (s : Dev nD) (f : Buf (Elt F) ((c : Thread nD τ).loc cc0_scratch2)) :
    (commPts c s fullShare f : sProp 𝕄) ⊣⊢ iprop(commPts c s (shareDrop fullShare 15) f
      ∗ bigSep (Finset.Ico 1 16) fun d => commPts c s (shareTokN fullShare (d - 1)) f) := by
  rw [bigSep_shift fun d => commPts c s (shareTokN fullShare d) f]
  exact Idealize.ShloMosaic.Transfers.pointsTo_toks_range fullShare 15

/-- The device's own slot comes to hand, whatever it holds. -/
theorem to_slot {g : Vec F S8x1024 .f32} {p : Prog (TpuEff nD τ sig (Elt F) Λ₀ .tc) α}
    (h : ∀ f, iprop(ctx m ∗ commPts c c fullShare f ∗ (FoldSt m c 8 g ∗ BarP c ∗ bigSep (Finset.Ico 1 16) (sendP c)) ∗ R) ⊢ Runs c p Q) :
    iprop(ctx m ∗ FoldSt m c 8 g ∗ OwnSt c ∗ R) ⊢ Runs c p Q := by
  unfold OwnSt
  iintro ⟨HC, HF, ⟨⟨%f, Hs⟩, HB, HS⟩, HR⟩
  iapply (h f)
  isplitl [HC]; · iexact HC
  isplitl [Hs]; · iexact Hs
  isplitr [HR]
  · isplitl [HF]; · iexact HF
    isplitl [HB] <;> iassumption
  iexact HR

/-- The fold finished and the row stored, the device comes to the barrier. -/
theorem to_barrier {g : Vec F S8x1024 .f32} {p : Prog (TpuEff nD τ sig (Elt F) Λ₀ .tc) α} {A B : sProp (MT nD τ sig Unit (Elt F) ℕ UU ℕ)}
    (h : iprop(ctx m ∗ BarSt c ∗ (A ∗ bigSep (Finset.Ico 0 8) (copyC m c) ∗ accPts c g ∗ B) ∗ R) ⊢ Runs c p Q) :
    iprop(ctx m ∗ A ∗ (FoldSt m c 8 g ∗ BarP c ∗ B) ∗ R) ⊢ Runs c p Q := by
  unfold FoldSt BarP
  iintro ⟨HC, HA, ⟨⟨HO, HW, Hacc⟩, ⟨Hat, Hcr⟩, HB⟩, HR⟩
  iapply h
  isplitl [HC]; · iexact HC
  isplitl [HO Hat Hcr]
  · unfold BarSt
    isplitl [HO]; · iexact HO
    isplitl [Hat] <;> iassumption
  isplitr [HR]
  · isplitl [HA]; · iexact HA
    isplitl [HW]; · iapply (walk_end (copyB c) (copyC m c) 0 8); iexact HW
    isplitl [Hacc] <;> iassumption
  iexact HR

/-- The rights, the slot and the share make a transfer ready. -/
theorem sendA_of (d : ℕ) : iprop(sendP c d ∗ (∃ f, commPts (F := F) (peer c d) c fullShare f)
    ∗ commPts c c (shareTokN fullShare (d - 1)) (rowV m c c)) ⊢ sendA m c d := by
  unfold sendP sendA
  iintro ⟨⟨H1, H2, H3⟩, H4, H5⟩
  isplitl [H1]; · iexact H1
  isplitl [H2]; · iexact H2
  isplitl [H3]; · iexact H3
  isplitl [H4] <;> iassumption
theorem sendA_intro : iprop(bigSep (Finset.Ico 1 16) (sendP c)
      ∗ bigSep (Finset.Ico 1 16) (fun d => iprop(∃ f, commPts (F := F) (peer c d) c fullShare f))
      ∗ bigSep (Finset.Ico 1 16) (fun d => commPts c c (shareTokN fullShare (d - 1)) (rowV m c c)))
    ⊢ bigSep (Finset.Ico 1 16) (sendA m c) :=
  (Entails.of_eq ((bigSep_sep _ _ _).trans (congrArg _ (bigSep_sep _ _ _))).symm).trans (bigSep_mono fun d _ => sendA_of m c d)

/-- Past the barrier, the transfers may start. -/
theorem to_send {p : Prog (TpuEff nD τ sig (Elt F) Λ₀ .tc) α}
    (h : iprop(ctx m ∗ SendSt m c 1 ∗ (ownSh m c ∗ HeldSt m c) ∗ R) ⊢ Runs c p Q) :
    iprop(ctx m ∗ MetSt c ∗ (commPts c c fullShare (rowV m c c) ∗ bigSep (Finset.Ico 0 8) (copyC m c) ∗ accPts c (accAt m c 7)
      ∗ bigSep (Finset.Ico 1 16) (sendP c)) ∗ R) ⊢ Runs c p Q := by
  unfold MetSt
  iintro ⟨HC, ⟨HO, Hat, Hslots⟩, ⟨Hrow, Hcopy, Hacc, Hsend⟩, HR⟩
  ihave Hrow' := (commPts_shares c c (rowV m c c)).1 $$ Hrow
  icases Hrow' with ⟨Hown, Htoks⟩
  iapply h
  isplitl [HC]; · iexact HC
  isplitl [HO Hslots Hsend Htoks]
  · unfold SendSt
    isplitl [HO]; · iexact HO
    iapply (walk_start (sendA m c) (sendB c) 1 16)
    iapply (sendA_intro m c)
    isplitl [Hsend]; · iexact Hsend
    isplitl [Hslots] <;> iassumption
  isplitr [HR]
  · unfold ownSh HeldSt
    isplitl [Hown]; · iexact Hown
    isplitl [Hcopy]; · iexact Hcopy
    isplitl [Hacc] <;> iassumption
  iexact HR

/-- The last block folded, the row stored, the barrier passed, the first transfer. -/
theorem part9 {v : BitVec 32} {kont : PUnit → Prog (TpuEff nD τ sig (Elt F) Λ₀ .tc) α}
    (h : iprop(ctx m ∗ SendSt m c 2 ∗ (ownSh m c ∗ HeldSt m c) ∗ R) ⊢ Runs c (kont ⟨⟩) Q) :
    iprop(ctx m ∗ FoldSt m c 8 (accAt m c 6) ∗ OwnSt c ∗ R) ⊢ Runs c (At (k0_part9 (F := F)) c v bar0 (k0_pay2 (strip m c (bk 7))) >>= kont) Q := by
  rw [k0_part9_eq_skeleton]; unfold k0_part9_skel
  simp only [semSignalWord, semWaitWord, Prog.lift, Prog.bind_op, Prog.bind_ret, Prog.pure_eq_ret, wp_deviceId]
  refine acc_load m c ?_
  refine acc_load m c ?_
  refine acc_store m c (w' := accAt m c 7) rfl ?_
  refine acc_load m c ?_
  refine to_slot m c fun f => ?_
  refine slot_load m c (k0_off1_eq c) ?_
  refine row_store m c (k0_off1_eq c) rfl ?_
  refine to_barrier m c ?_
  refine barrier_step m c rfl ?_
  refine to_send m c ?_
  refine send_step m c 1 (by decide) (by decide) (Fin.ext (k0_dev16_eq c)) (slot_at c (k0_off3_eq c) _) (slot_at c (k0_off3_eq c) _)
    (send_entry 0 _) (sem_at c (k0_off2_eq c) _) ?_
  exact h

/-- Three transfers. -/
theorem part10 {v : BitVec 32} {kont : BitVec 32 → Prog (TpuEff nD τ sig (Elt F) Λ₀ .tc) α}
    (h : ∀ w, iprop(ctx m ∗ SendSt m c 5 ∗ R) ⊢ Runs c (kont w) Q) :
    iprop(ctx m ∗ SendSt m c 2 ∗ R) ⊢ Runs c (At (k0_part10 (F := F)) c v >>= kont) Q := by
  rw [k0_part10_eq_skeleton]; unfold k0_part10_skel
  simp only [semSignalWord, semWaitWord, Prog.lift, Prog.bind_op, Prog.bind_ret, Prog.pure_eq_ret, wp_deviceId]
  refine send_step m c 2 (by decide) (by decide) (Fin.ext (k0_dev17_eq c)) (slot_at c (k0_off3_eq c) _) (slot_at c (k0_off3_eq c) _)
    (send_entry 1 _) (sem_at c (k0_off2_eq c) _) ?_
  refine send_step m c 3 (by decide) (by decide) (Fin.ext (k0_dev18_eq c)) (slot_at c (k0_off3_eq c) _) (slot_at c (k0_off3_eq c) _)
    (send_entry 2 _) (sem_at c (k0_off2_eq c) _) ?_
  refine send_step m c 4 (by decide) (by decide) (Fin.ext (k0_dev19_eq c)) (slot_at c (k0_off3_eq c) _) (slot_at c (k0_off3_eq c) _)
    (send_entry 3 _) (sem_at c (k0_off2_eq c) _) ?_
  exact h _

/-- Three transfers. -/
theorem part11 {v w : BitVec 32} {kont : BitVec 32 → Prog (TpuEff nD τ sig (Elt F) Λ₀ .tc) α}
    (h : ∀ w, iprop(ctx m ∗ SendSt m c 8 ∗ R) ⊢ Runs c (kont w) Q) :
    iprop(ctx m ∗ SendSt m c 5 ∗ R) ⊢ Runs c (At (k0_part11 (F := F)) c v w >>= kont) Q := by
  rw [k0_part11_eq_skeleton]; unfold k0_part11_skel
  simp only [semSignalWord, semWaitWord, Prog.lift, Prog.bind_op, Prog.bind_ret, Prog.pure_eq_ret, wp_deviceId]
  refine send_step m c 5 (by decide) (by decide) (Fin.ext (k0_dev20_eq c)) (slot_at c (k0_off3_eq c) _) (slot_at c (k0_off3_eq c) _)
    (send_entry 4 _) (sem_at c (k0_off2_eq c) _) ?_
  refine send_step m c 6 (by decide) (by decide) (Fin.ext (k0_dev21_eq c)) (slot_at c (k0_off3_eq c) _) (slot_at c (k0_off3_eq c) _)
    (send_entry 5 _) (sem_at c (k0_off2_eq c) _) ?_
  refine send_step m c 7 (by decide) (by decide) (Fin.ext (k0_dev22_eq c)) (slot_at c (k0_off3_eq c) _) (slot_at c (k0_off3_eq c) _)
    (send_entry 6 _) (sem_at c (k0_off2_eq c) _) ?_
  exact h _

/-- Two transfers. -/
theorem part12 {v w : BitVec 32} {kont : PUnit → Prog (TpuEff nD τ sig (Elt F) Λ₀ .tc) α}
    (h : iprop(ctx m ∗ SendSt m c 10 ∗ R) ⊢ Runs c (kont ⟨⟩) Q) :
    iprop(ctx m ∗ SendSt m c 8 ∗ R) ⊢ Runs c (At (k0_part12 (F := F)) c v w >>= kont) Q := by
  rw [k0_part12_eq_skeleton]; unfold k0_part12_skel
  simp only [semSignalWord, semWaitWord, Prog.lift, Prog.bind_op, Prog.bind_ret, Prog.pure_eq_ret, wp_deviceId]
  refine send_step m c 8 (by decide) (by decide) (Fin.ext (k0_dev23_eq c)) (slot_at c (k0_off3_eq c) _) (slot_at c (k0_off3_eq c) _)
    (send_entry 7 _) (sem_at c (k0_off2_eq c) _) ?_
  refine send_step m c 9 (by decide) (by decide) (Fin.ext (k0_dev24_eq c)) (slot_at c (k0_off3_eq c) _) (slot_at c (k0_off3_eq c) _)
    (send_entry 8 _) (sem_at c (k0_off2_eq c) _) ?_
  exact h

/-- Three transfers. -/
theorem part13 {v : BitVec 32} {kont : PUnit → Prog (TpuEff nD τ sig (Elt F) Λ₀ .tc) α}
    (h : iprop(ctx m ∗ SendSt m c 13 ∗ R) ⊢ Runs c (kont ⟨⟩) Q) :
    iprop(ctx m ∗ SendSt m c 10 ∗ R) ⊢ Runs c (At (k0_part13 (F := F)) c v >>= kont) Q := by
  rw [k0_part13_eq_skeleton]; unfold k0_part13_skel
  simp only [semSignalWord, semWaitWord, Prog.lift, Prog.bind_op, Prog.bind_ret, Prog.pure_eq_ret, wp_deviceId]
  refine send_step m c 10 (by decide) (by decide) (Fin.ext (k0_dev25_eq c)) (slot_at c (k0_off3_eq c) _) (slot_at c (k0_off3_eq c) _)
    (send_entry 9 _) (sem_at c (k0_off2_eq c) _) ?_
  refine send_step m c 11 (by decide) (by decide) (Fin.ext (k0_dev26_eq c)) (slot_at c (k0_off3_eq c) _) (slot_at c (k0_off3_eq c) _)
    (send_entry 10 _) (sem_at c (k0_off2_eq c) _) ?_
  refine send_step m c 12 (by decide) (by decide) (Fin.ext (k0_dev27_eq c)) (slot_at c (k0_off3_eq c) _) (slot_at c (k0_off3_eq c) _)
    (send_entry 11 _) (sem_at c (k0_off2_eq c) _) ?_
  exact h

/-- The last three transfers; the device's own row is where its maximum begins. -/
theorem part14 {v : BitVec 32} {kont : FVec F S1x1024 .f32 → Prog (TpuEff nD τ sig (Elt F) Λ₀ .tc) α}
    (h : iprop(ctx m ∗ SendSt m c 16 ∗ (ownSh m c ∗ HeldSt m c) ∗ R) ⊢ Runs c (kont (best m c 0)) Q) :
    iprop(ctx m ∗ SendSt m c 13 ∗ (ownSh m c ∗ HeldSt m c) ∗ R) ⊢ Runs c (At (k0_part14 (F := F)) c v >>= kont) Q := by
  rw [k0_part14_eq_skeleton]; unfold k0_part14_skel
  simp only [semSignalWord, semWaitWord, Prog.lift, Prog.bind_op, Prog.bind_ret, Prog.pure_eq_ret, wp_deviceId]
  refine send_step m c 13 (by decide) (by decide) (Fin.ext (k0_dev28_eq c)) (slot_at c (k0_off3_eq c) _) (slot_at c (k0_off3_eq c) _)
    (send_entry 12 _) (sem_at c (k0_off2_eq c) _) ?_
  refine send_step m c 14 (by decide) (by decide) (Fin.ext (k0_dev29_eq c)) (slot_at c (k0_off3_eq c) _) (slot_at c (k0_off3_eq c) _)
    (send_entry 13 _) (sem_at c (k0_off2_eq c) _) ?_
  refine send_step m c 15 (by decide) (by decide) (Fin.ext (k0_dev30_eq c)) (slot_at c (k0_off3_eq c) _) (slot_at c (k0_off3_eq c) _)
    (send_entry 14 _) (sem_at c (k0_off2_eq c) _) ?_
  have h' : iprop(ctx m ∗ ownSh m c ∗ (SendSt m c 16 ∗ HeldSt m c) ∗ R) ⊢ Runs c (kont (best m c 0)) Q := by
    iintro ⟨HC, Hs, ⟨HS, HH⟩, HR⟩
    iapply h
    isplitl [HC]; · iexact HC
    isplitl [HS]; · iexact HS
    isplitr [HR]
    · isplitl [Hs] <;> iassumption
    iexact HR
  unfold ownSh at h' ⊢
  iintro ⟨HC, HS, ⟨Hs, HH⟩, HR⟩
  iapply (row_load m c (s := c) (k0_off1_eq c) h')
  isplitl [HC]; · iexact HC
  isplitl [Hs]; · iexact Hs
  isplitr [HR]
  · isplitl [HS] <;> iassumption
  iexact HR

/-! ## The arrivals and the departures -/

/-- All the transfers in flight, the rows may arrive. -/
theorem to_recv {p : Prog (TpuEff nD τ sig (Elt F) Λ₀ .tc) α}
    (h : iprop(ctx m ∗ RecvSt m c 1 ∗ bigSep (Finset.Ico 1 16) (sendB c) ∗ R) ⊢ Runs c p Q) :
    iprop(ctx m ∗ SendSt m c 16 ∗ bigSep (Finset.Ico 1 16) (recvA c) ∗ R) ⊢ Runs c p Q := by
  unfold SendSt RecvSt at *
  iintro ⟨HC, ⟨HO, HW⟩, Hr, HR⟩
  iapply h
  isplitl [HC]; · iexact HC
  isplitl [HO Hr]
  · isplitl [HO]; · iexact HO
    iapply (walk_start (recvA c) (recvB m c) 1 16); iexact Hr
  isplitl [HW]; · iapply (walk_end (sendA m c) (sendB c) 1 16); iexact HW
  iexact HR

/-- The result's buffer comes to hand. -/
theorem to_out {A B C : sProp (MT nD τ sig Unit (Elt F) ℕ UU ℕ)} {p : Prog (TpuEff nD τ sig (Elt F) Λ₀ .tc) α}
    (h : iprop(ctx m ∗ B ∗ (A ∗ C) ∗ R) ⊢ Runs c p Q) : iprop(ctx m ∗ A ∗ (B ∗ C) ∗ R) ⊢ Runs c p Q := by
  iintro ⟨HC, HA, ⟨HB, HC'⟩, HR⟩
  iapply h
  isplitl [HC]; · iexact HC
  isplitl [HB]; · iexact HB
  isplitr [HR]
  · isplitl [HA] <;> iassumption
  iexact HR

/-- All the rows arrived, the device waits for its own to have departed. -/
theorem to_done {p : Prog (TpuEff nD τ sig (Elt F) Λ₀ .tc) α} {B : sProp (MT nD τ sig Unit (Elt F) ℕ UU ℕ)}
    (h : iprop(ctx m ∗ DoneSt m c 1 ∗ (B ∗ bigSep (Finset.Ico 1 16) (recvB m c)) ∗ R) ⊢ Runs c p Q) :
    iprop(ctx m ∗ B ∗ (RecvSt m c 16 ∗ bigSep (Finset.Ico 1 16) (sendB c)) ∗ R) ⊢ Runs c p Q := by
  unfold RecvSt DoneSt at *
  iintro ⟨HC, HB, ⟨⟨HO, HW⟩, Hs⟩, HR⟩
  iapply h
  isplitl [HC]; · iexact HC
  isplitl [HO Hs]
  · isplitl [HO]; · iexact HO
    iapply (walk_start (sendB c) (sendC m c) 1 16); iexact Hs
  isplitr [HR]
  · isplitl [HB]; · iexact HB
    iapply (walk_end (recvA c) (recvB m c) 1 16); iexact HW
  iexact HR

/-- Two rows arrive. -/
theorem part15 {v : BitVec 32} {kont : (Σ' (_ : FVec F S1x1024 .f32) (_ : BitVec 32) (_ : BitVec 32), BitVec 32) → Prog (TpuEff nD τ sig (Elt F) Λ₀ .tc) α}
    (h : ∀ v w u, iprop(ctx m ∗ RecvSt m c 3 ∗ R) ⊢ Runs c (kont ⟨best m c 2, v, w, u⟩) Q) :
    iprop(ctx m ∗ RecvSt m c 1 ∗ R) ⊢ Runs c (At (k0_part15 (F := F)) c v (best m c 0) >>= kont) Q := by
  rw [k0_part15_eq_skeleton]; unfold k0_part15_skel
  simp only [semSignalWord, semWaitWord, Prog.lift, Prog.bind_op, Prog.bind_ret, Prog.pure_eq_ret, wp_deviceId]
  refine recv_step m c 1 (by decide) (by decide) (slot_at _ (k0_off5_eq c 0) _) (sem_at _ (k0_off4_eq c 0) _) ?_
  refine arrived_load m c 1 (by decide) (k0_off6_eq c 0) ?_
  refine recv_step m c 2 (by decide) (by decide) (slot_at _ (k0_off5_eq c 1) _) (sem_at _ (k0_off4_eq c 1) _) ?_
  refine arrived_load m c 2 (by decide) (k0_off6_eq c 1) ?_
  exact h _ _ _

/-- Two rows arrive. -/
theorem part16 {v x y z : BitVec 32} {kont : (Σ' (_ : FVec F S1x1024 .f32), BitVec 32) → Prog (TpuEff nD τ sig (Elt F) Λ₀ .tc) α}
    (h : ∀ v, iprop(ctx m ∗ RecvSt m c 5 ∗ R) ⊢ Runs c (kont ⟨best m c 4, v⟩) Q) :
    iprop(ctx m ∗ RecvSt m c 3 ∗ R) ⊢ Runs c (At (k0_part16 (F := F)) c v (best m c 2) x y z >>= kont) Q := by
  rw [k0_part16_eq_skeleton]; unfold k0_part16_skel
  simp only [semSignalWord, semWaitWord, Prog.lift, Prog.bind_op, Prog.bind_ret, Prog.pure_eq_ret, wp_deviceId]
  refine recv_step m c 3 (by decide) (by decide) (slot_at _ (k0_off5_eq c 2) _) (sem_at _ (k0_off4_eq c 2) _) ?_
  refine arrived_load m c 3 (by decide) (k0_off6_eq c 2) ?_
  refine recv_step m c 4 (by decide) (by decide) (slot_at _ (k0_off5_eq c 3) _) (sem_at _ (k0_off4_eq c 3) _) ?_
  refine arrived_load m c 4 (by decide) (k0_off6_eq c 3) ?_
  exact h _

/-- Three rows arrive. -/
theorem part17 {v w : BitVec 32} {kont : (Σ' (_ : FVec F S1x1024 .f32), Vec F S1x1x1024 .f32) → Prog (TpuEff nD τ sig (Elt F) Λ₀ .tc) α}
    (h : iprop(ctx m ∗ RecvSt m c 8 ∗ R) ⊢ Runs c (kont ⟨best m c 6, rowAt m (peer c 7)⟩) Q) :
    iprop(ctx m ∗ RecvSt m c 5 ∗ R) ⊢ Runs c (At (k0_part17 (F := F)) c v (best m c 4) w >>= kont) Q := by
  rw [k0_part17_eq_skeleton]; unfold k0_part17_skel
  simp only [semSignalWord, semWaitWord, Prog.lift, Prog.bind_op, Prog.bind_ret, Prog.pure_eq_ret, wp_deviceId]
  refine recv_step m c 5 (by decide) (by decide) (slot_at _ (k0_off5_eq c 4) _) (sem_at _ (k0_off4_eq c 4) _) ?_
  refine arrived_load m c 5 (by decide) (k0_off6_eq c 4) ?_
  refine recv_step m c 6 (by decide) (by decide) (slot_at _ (k0_off5_eq c 5) _) (sem_at _ (k0_off4_eq c 5) _) ?_
  refine arrived_load m c 6 (by decide) (k0_off6_eq c 5) ?_
  refine recv_step m c 7 (by decide) (by decide) (slot_at _ (k0_off5_eq c 6) _) (sem_at _ (k0_off4_eq c 6) _) ?_
  refine arrived_load m c 7 (by decide) (k0_off6_eq c 6) ?_
  exact h

/-- Two rows arrive. -/
theorem part18 {v : BitVec 32} {kont : (Σ' (_ : FVec F S1x1024 .f32) (_ : BitVec 32), BitVec 32) → Prog (TpuEff nD τ sig (Elt F) Λ₀ .tc) α}
    (h : ∀ v w, iprop(ctx m ∗ RecvSt m c 10 ∗ R) ⊢ Runs c (kont ⟨best m c 9, v, w⟩) Q) :
    iprop(ctx m ∗ RecvSt m c 8 ∗ R) ⊢ Runs c (At (k0_part18 (F := F)) c v (best m c 6) (rowAt m (peer c 7)) >>= kont) Q := by
  rw [k0_part18_eq_skeleton]; unfold k0_part18_skel
  simp only [semSignalWord, semWaitWord, Prog.lift, Prog.bind_op, Prog.bind_ret, Prog.pure_eq_ret, wp_deviceId]
  refine recv_step m c 8 (by decide) (by decide) (slot_at _ (k0_off5_eq c 7) _) (sem_at _ (k0_off4_eq c 7) _) ?_
  refine arrived_load m c 8 (by decide) (k0_off6_eq c 7) ?_
  refine recv_step m c 9 (by decide) (by decide) (slot_at _ (k0_off5_eq c 8) _) (sem_at _ (k0_off4_eq c 8) _) ?_
  refine arrived_load m c 9 (by decide) (k0_off6_eq c 8) ?_
  exact h _ _

/-- Two rows arrive. -/
theorem part19 {v x y : BitVec 32} {kont : (Σ' (_ : FVec F S1x1024 .f32), BitVec 32) → Prog (TpuEff nD τ sig (Elt F) Λ₀ .tc) α}
    (h : ∀ v, iprop(ctx m ∗ RecvSt m c 12 ∗ R) ⊢ Runs c (kont ⟨best m c 11, v⟩) Q) :
    iprop(ctx m ∗ RecvSt m c 10 ∗ R) ⊢ Runs c (At (k0_part19 (F := F)) c v (best m c 9) x y >>= kont) Q := by
  rw [k0_part19_eq_skeleton]; unfold k0_part19_skel
  simp only [semSignalWord, semWaitWord, Prog.lift, Prog.bind_op, Prog.bind_ret, Prog.pure_eq_ret, wp_deviceId]
  refine recv_step m c 10 (by decide) (by decide) (slot_at _ (k0_off5_eq c 9) _) (sem_at _ (k0_off4_eq c 9) _) ?_
  refine arrived_load m c 10 (by decide) (k0_off6_eq c 9) ?_
  refine recv_step m c 11 (by decide) (by decide) (slot_at _ (k0_off5_eq c 10) _) (sem_at _ (k0_off4_eq c 10) _) ?_
  refine arrived_load m c 11 (by decide) (k0_off6_eq c 10) ?_
  exact h _

/-- Three rows arrive. -/
theorem part20 {v w : BitVec 32} {kont : FVec F S1x1024 .f32 → Prog (TpuEff nD τ sig (Elt F) Λ₀ .tc) α}
    (h : iprop(ctx m ∗ RecvSt m c 15 ∗ R) ⊢ Runs c (kont (best m c 13)) Q) :
    iprop(ctx m ∗ RecvSt m c 12 ∗ R) ⊢ Runs c (At (k0_part20 (F := F)) c v (best m c 11) w >>= kont) Q := by
  rw [k0_part20_eq_skeleton]; unfold k0_part20_skel
  simp only [semSignalWord, semWaitWord, Prog.lift, Prog.bind_op, Prog.bind_ret, Prog.pure_eq_ret, wp_deviceId]
  refine recv_step m c 12 (by decide) (by decide) (slot_at _ (k0_off5_eq c 11) _) (sem_at _ (k0_off4_eq c 11) _) ?_
  refine arrived_load m c 12 (by decide) (k0_off6_eq c 11) ?_
  refine recv_step m c 13 (by decide) (by decide) (slot_at _ (k0_off5_eq c 12) _) (sem_at _ (k0_off4_eq c 12) _) ?_
  refine arrived_load m c 13 (by decide) (k0_off6_eq c 12) ?_
  refine recv_step m c 14 (by decide) (by decide) (slot_at _ (k0_off5_eq c 13) _) (sem_at _ (k0_off4_eq c 13) _) ?_
  exact h

/-- The last row arrives, the result is stored, the first transfer has departed. -/
theorem part21 {v : BitVec 32} {f : Vec F S1x1024 .f32} {kont : PUnit → Prog (TpuEff nD τ sig (Elt F) Λ₀ .tc) α}
    (h : iprop(ctx m ∗ DoneSt m c 2 ∗ (outPts c (best m c 15) ∗ bigSep (Finset.Ico 1 16) (recvB m c)) ∗ R) ⊢ Runs c (kont ⟨⟩) Q) :
    iprop(ctx m ∗ RecvSt m c 15 ∗ (outPts c f ∗ bigSep (Finset.Ico 1 16) (sendB c)) ∗ R) ⊢ Runs c (At (k0_part21 (F := F)) c v (best m c 13) >>= kont) Q := by
  rw [k0_part21_eq_skeleton]; unfold k0_part21_skel
  simp only [semSignalWord, semWaitWord, Prog.lift, Prog.bind_op, Prog.bind_ret, Prog.pure_eq_ret, wp_deviceId]
  refine arrived_load m c 14 (by decide) (k0_off6_eq c 13) ?_
  refine recv_step m c 15 (by decide) (by decide) (slot_at _ (k0_off5_eq c 14) _) (sem_at _ (k0_off4_eq c 14) _) ?_
  refine arrived_load m c 15 (by decide) (k0_off6_eq c 14) ?_
  refine to_out m c ?_
  refine out_load m c ?_
  refine out_store m c (w' := best m c 15) rfl ?_
  refine to_done m c ?_
  refine sent_step m c 1 (by decide) (by decide) (slot_at c (k0_off3_eq c) _) (send_entry 0 _) ?_
  exact h

/-- Four transfers have departed. -/
theorem part22 {v : BitVec 32} {kont : BitVec 32 → Prog (TpuEff nD τ sig (Elt F) Λ₀ .tc) α}
    (h : ∀ w, iprop(ctx m ∗ DoneSt m c 6 ∗ R) ⊢ Runs c (kont w) Q) :
    iprop(ctx m ∗ DoneSt m c 2 ∗ R) ⊢ Runs c (At (k0_part22 (F := F)) c v >>= kont) Q := by
  rw [k0_part22_eq_skeleton]; unfold k0_part22_skel
  simp only [semSignalWord, semWaitWord, Prog.lift, Prog.bind_op, Prog.bind_ret, Prog.pure_eq_ret, wp_deviceId]
  refine sent_step m c 2 (by decide) (by decide) (slot_at c (k0_off3_eq c) _) (send_entry 1 _) ?_
  refine sent_step m c 3 (by decide) (by decide) (slot_at c (k0_off3_eq c) _) (send_entry 2 _) ?_
  refine sent_step m c 4 (by decide) (by decide) (slot_at c (k0_off3_eq c) _) (send_entry 3 _) ?_
  refine sent_step m c 5 (by decide) (by decide) (slot_at c (k0_off3_eq c) _) (send_entry 4 _) ?_
  exact h _

/-- Three transfers have departed. -/
theorem part23 {v w : BitVec 32} {kont : PUnit → Prog (TpuEff nD τ sig (Elt F) Λ₀ .tc) α}
    (h : iprop(ctx m ∗ DoneSt m c 9 ∗ R) ⊢ Runs c (kont ⟨⟩) Q) :
    iprop(ctx m ∗ DoneSt m c 6 ∗ R) ⊢ Runs c (At (k0_part23 (F := F)) c v w >>= kont) Q := by
  rw [k0_part23_eq_skeleton]; unfold k0_part23_skel
  simp only [semSignalWord, semWaitWord, Prog.lift, Prog.bind_op, Prog.bind_ret, Prog.pure_eq_ret, wp_deviceId]
  refine sent_step m c 6 (by decide) (by decide) (slot_at c (k0_off3_eq c) _) (send_entry 5 _) ?_
  refine sent_step m c 7 (by decide) (by decide) (slot_at c (k0_off3_eq c) _) (send_entry 6 _) ?_
  refine sent_step m c 8 (by decide) (by decide) (slot_at c (k0_off3_eq c) _) (send_entry 7 _) ?_
  exact h

/-- Four transfers have departed. -/
theorem part24 {v : BitVec 32} {kont : BitVec 32 → Prog (TpuEff nD τ sig (Elt F) Λ₀ .tc) α}
    (h : ∀ w, iprop(ctx m ∗ DoneSt m c 13 ∗ R) ⊢ Runs c (kont w) Q) :
    iprop(ctx m ∗ DoneSt m c 9 ∗ R) ⊢ Runs c (At (k0_part24 (F := F)) c v >>= kont) Q := by
  rw [k0_part24_eq_skeleton]; unfold k0_part24_skel
  simp only [semSignalWord, semWaitWord, Prog.lift, Prog.bind_op, Prog.bind_ret, Prog.pure_eq_ret, wp_deviceId]
  refine sent_step m c 9 (by decide) (by decide) (slot_at c (k0_off3_eq c) _) (send_entry 8 _) ?_
  refine sent_step m c 10 (by decide) (by decide) (slot_at c (k0_off3_eq c) _) (send_entry 9 _) ?_
  refine sent_step m c 11 (by decide) (by decide) (slot_at c (k0_off3_eq c) _) (send_entry 10 _) ?_
  refine sent_step m c 12 (by decide) (by decide) (slot_at c (k0_off3_eq c) _) (send_entry 11 _) ?_
  exact h _

end Cert.MaxRing
-- ==== Proof.Body.lean ====
/-
# The kernel on one device

The parts of the kernel put together: from the device's share of the protocol to the maximum in the result's buffer, with
every transfer arrived and departed.
-/
module

public import proofs.«01_k».proof.Proof.Parts

@[expose] public section

noncomputable section

namespace Cert.MaxRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (c : Dev nD)

variable {α : Type} {Q : α → sProp (MT nD τ sig Unit (Elt F) ℕ UU ℕ)} {R : sProp (MT nD τ sig Unit (Elt F) ℕ UU ℕ)}

/-- What the device starts from, with the buffers of the running maximum and of the result. -/
def Begin (f : Vec F S8x1024 .f32) (g : Vec F S1x1024 .f32) : sProp 𝕄 :=
  iprop(SigSt c 1 ∗ Walk (copyA m c) (copyB c) 0 8 0 ∗ accPts c f ∗ OwnSt c ∗ bigSep (Finset.Ico 1 16) (recvA c) ∗ outPts c g)
/-- What it ends with. -/
def End : sProp 𝕄 :=
  iprop(DoneSt m c 16 ∗ (outPts c (best m c 15) ∗ bigSep (Finset.Ico 1 16) (recvB m c)) ∗ ownSh m c ∗ HeldSt m c)

/-- All the transfers are in flight; the arrivals and the result's buffer come to hand. -/
theorem to_arrivals {A B : sProp (MT nD τ sig Unit (Elt F) ℕ UU ℕ)} {p : Prog (TpuEff nD τ sig (Elt F) Λ₀ .tc) α}
    (h : iprop(ctx m ∗ RecvSt m c 1 ∗ (B ∗ bigSep (Finset.Ico 1 16) (sendB c)) ∗ A) ⊢ Runs c p Q) :
    iprop(ctx m ∗ SendSt m c 16 ∗ A ∗ bigSep (Finset.Ico 1 16) (recvA c) ∗ B) ⊢ Runs c p Q := by
  have h' : iprop(ctx m ∗ RecvSt m c 1 ∗ bigSep (Finset.Ico 1 16) (sendB c) ∗ (A ∗ B)) ⊢ Runs c p Q := by
    iintro ⟨HC, HS, HT, HA, HB⟩
    iapply h
    isplitl [HC]; · iexact HC
    isplitl [HS]; · iexact HS
    isplitr [HA]
    · isplitl [HB] <;> iassumption
    iexact HA
  iintro ⟨HC, HS, HA, HT, HB⟩
  iapply (to_recv m c h')
  isplitl [HC]; · iexact HC
  isplitl [HS]; · iexact HS
  isplitl [HT]; · iexact HT
  isplitl [HA] <;> iassumption

/-- The kernel but its last wait. -/
theorem part25 {f : Vec F S8x1024 .f32} {g : Vec F S1x1024 .f32} {kont : Dev nD → Prog (TpuEff nD τ sig (Elt F) Λ₀ .tc) α}
    (h : iprop(ctx m ∗ DoneSt m c 15 ∗ (outPts c (best m c 15) ∗ bigSep (Finset.Ico 1 16) (recvB m c)) ∗ (ownSh m c ∗ HeldSt m c))
      ⊢ Runs c (kont c) Q) :
    iprop(ctx m ∗ Begin m c f g) ⊢ Runs c (At (k0_part25 (F := F)) >>= kont) Q := by
  unfold Runs at h ⊢
  rw [wp_bind, k0_part25_eq_skeleton]; unfold k0_part25_skel Begin
  refine part1 m c fun v w u => ?_
  refine part2 m c fun _ _ => ?_
  refine part3 m c ?_
  refine part4 m c ?_
  refine part5 m c ?_
  refine part6 m c ?_
  refine part7 m c ?_
  refine part8 m c ?_
  refine part9 m c ?_
  refine part10 m c fun _ => ?_
  refine part11 m c fun _ => ?_
  refine part12 m c ?_
  refine part13 m c ?_
  refine part14 m c ?_
  refine to_arrivals m c ?_
  refine part15 m c fun _ _ _ => ?_
  refine part16 m c fun _ => ?_
  refine part17 m c ?_
  refine part18 m c fun _ _ => ?_
  refine part19 m c fun _ => ?_
  refine part20 m c ?_
  refine part21 m c ?_
  refine part22 m c fun _ => ?_
  refine part23 m c ?_
  refine part24 m c fun _ => ?_
  simp only [Prog.lift, Prog.bind_op, Prog.bind_ret, Prog.pure_eq_ret]
  refine sent_step m c 13 (by decide) (by decide) (slot_at c (k0_off3_eq c) _) (send_entry 12 _) ?_
  refine sent_step m c 14 (by decide) (by decide) (slot_at c (k0_off3_eq c) _) (send_entry 13 _) ?_
  exact finish c h

/-- The kernel. -/
theorem kernel_runs {f : Vec F S8x1024 .f32} {g : Vec F S1x1024 .f32} {Q : PUnit → sProp 𝕄} (h : iprop(ctx m ∗ End m c) ⊢ Q ⟨⟩) :
    iprop(ctx m ∗ Begin m c f g) ⊢ Runs c (At (cc0_body (F := F))) Q := by
  rw [cc0_body_eq_skeleton]; unfold cc0_body_skel
  refine part25 m c ?_
  simp only [Prog.lift, Prog.bind_op, Prog.bind_ret, Prog.pure_eq_ret]
  refine sent_step m c 15 (by decide) (by decide) (slot_at c (k0_off3_eq c) _) (send_entry 14 _) ?_
  exact finish c h

end Cert.MaxRing
-- ==== Proof.Deal.lean ====
/-
# From a device's belongings to the states of the kernel and back

At launch a device has its buffers whole, its place at every semaphore, and the tokens and credits it was dealt. This
file turns that into the state the kernel begins in, and the state it ends in back into whole buffers and semaphores at
zero.
-/
module

public import proofs.«01_k».proof.Proof.Body

@[expose] public section

noncomputable section

namespace Cert.MaxRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

/-! ## The semaphores, sorted by use -/

section Sorted
variable {M : Type} [URA M]

/-- One resource for each of the numbers under 41: the barrier's, the copies', the departures', the arrivals'. -/
theorem numbers_split (Ψ : ℕ → sProp M) :
    bigSep (Finset.range 41) Ψ = iprop(Ψ 0 ∗ (bigSep (Finset.Ico 0 8) fun k => Ψ (1 + k)) ∗ (bigSep (Finset.Ico 1 16) fun d => Ψ (8 + d))
      ∗ Ψ 24 ∗ bigSep (Finset.range 16) fun s => Ψ (25 + s)) := by
  have h : Finset.range 41 = insert 0 ((Finset.Ico 0 8).image (1 + ·) ∪ ((Finset.Ico 1 16).image (8 + ·)
    ∪ insert 24 ((Finset.range 16).image (25 + ·)))) := by decide
  have inj (a : ℕ) (S : Finset ℕ) : Set.InjOn (fun x => a + x) (S : Set ℕ) := fun _ _ _ _ e => Nat.add_left_cancel e
  rw [h, BI.bigSep_insert (by decide), BI.bigSep_union (by decide), BI.bigSep_union (by decide), BI.bigSep_insert (by decide),
    bigSep_image_of_injOn (inj 1 _), bigSep_image_of_injOn (inj 8 _), bigSep_image_of_injOn (inj 25 _)]
  rfl

/-- One resource for each semaphore of device `c`, sorted by use; the departure and the arrival no transfer uses apart. -/
theorem cells_split (c : Dev nD) (Φ : SemLoc sig → sProp M) :
    bigSep Finset.univ (fun i : Fin 41 => Φ (csem i)) = iprop(Φ (.reg barS) ∗ (bigSep (Finset.Ico 0 8) fun k => Φ (.dma (copyS (bk k))))
      ∗ (bigSep (Finset.Ico 1 16) fun d => Φ (.dma (sendS d))) ∗ Φ (.dma (sendS 16)) ∗ Φ (.dma (recvS c))
      ∗ bigSep (Finset.Ico 1 16) fun d => Φ (.dma (recvS (peer c d)))) := by
  rw [Idealize.ShloMosaic.Ring.bigSep_fin_eq_range 41 (fun i : Fin 41 => Φ (csem i)) (fun n => Φ (csem ⟨n % 41, Nat.mod_lt _ (by decide)⟩))
      (fun k h => congrArg (fun i => Φ (csem i)) (Fin.ext (Nat.mod_eq_of_lt h))),
    numbers_split]
  have hc : bigSep (Finset.Ico 0 8) (fun k => Φ (csem ⟨(1 + k) % 41, Nat.mod_lt _ (by decide)⟩)) = bigSep (Finset.Ico 0 8) fun k => Φ (.dma (copyS (bk k))) :=
    bigSep_congr fun k hk => by
      have h := (Finset.mem_Ico.mp hk).2
      refine congrArg Φ ((if_neg (by show ¬ (1 + k) % 41 = 0; omega)).trans (congrArg _ (Fin.ext ?_)))
      rw [bk_eq k h]
      show (1 + k) % 41 = 1 + k
      omega
  have hs : bigSep (Finset.Ico 1 16) (fun d => Φ (csem ⟨(8 + d) % 41, Nat.mod_lt _ (by decide)⟩)) = bigSep (Finset.Ico 1 16) fun d => Φ (.dma (sendS d)) :=
    bigSep_congr fun d hd => by
      have h := (Finset.mem_Ico.mp hd).2
      refine congrArg Φ ((if_neg (by show ¬ (8 + d) % 41 = 0; omega)).trans (congrArg _ (Fin.ext ?_)))
      rw [val_sendS h]
      show (8 + d) % 41 = 8 + d
      omega
  have hr : bigSep (Finset.range 16) (fun s => Φ (csem ⟨(25 + s) % 41, Nat.mod_lt _ (by decide)⟩)) = bigSep Finset.univ fun s : Dev nD => Φ (.dma (recvS s)) :=
    (Idealize.ShloMosaic.Ring.bigSep_fin_eq_range 16 (fun s : Dev nD => Φ (.dma (recvS s))) _ fun s h => by
      have e : (25 + s) % 41 = 25 + s := Nat.mod_eq_of_lt (by omega)
      have h' : csem ⟨(25 + s) % 41, Nat.mod_lt _ (by decide)⟩ = .dma (recvS ⟨s, h⟩) :=
        (if_neg (by show ¬ (25 + s) % 41 = 0; omega)).trans (congrArg _ (Fin.ext e))
      exact congrArg Φ h').symm
  rw [hc, hs, hr, bigSep_turn c]
  rfl

/-- Pairs, triples and quadruples of one resource per number. -/
theorem sep2 (S : Finset ℕ) (A B : ℕ → sProp M) : bigSep S (fun i => iprop(A i ∗ B i)) = iprop(bigSep S A ∗ bigSep S B) := bigSep_sep S A B
theorem sep3 (S : Finset ℕ) (A B C : ℕ → sProp M) :
    bigSep S (fun i => iprop(A i ∗ B i ∗ C i)) = iprop(bigSep S A ∗ bigSep S B ∗ bigSep S C) := by rw [sep2, sep2]
theorem sep4 (S : Finset ℕ) (A B C D : ℕ → sProp M) :
    bigSep S (fun i => iprop(A i ∗ B i ∗ C i ∗ D i)) = iprop(bigSep S A ∗ bigSep S B ∗ bigSep S C ∗ bigSep S D) := by rw [sep2, sep3]

theorem exists_of {A : Type} (Φ : A → sProp M) (a : A) : Φ a ⊢ iprop(∃ a, Φ a) := by
  iintro H; iexists a; iexact H

end Sorted

variable (m : (ℓ : Loc nD τ sig) → Buf (Elt F) ℓ) (c : Dev nD)

/-! ## The buffers, whole and in blocks -/

/-- The device's rows, the landing buffer, the exchange buffer, whole. -/
def xAll : sProp 𝕄 := (c : Thread nD τ).loc main_arg0 ↦{fullShare} xV m c
def bufAll : sProp 𝕄 := iprop(∃ f : Buf (Elt F) ((c : Thread nD τ).loc cc0_scratch0), (c : Thread nD τ).loc cc0_scratch0 ↦{fullShare} f)
def commAll : sProp 𝕄 := iprop(∃ f : Buf (Elt F) ((c : Thread nD τ).loc cc0_scratch2), (c : Thread nD τ).loc cc0_scratch2 ↦{fullShare} f)

theorem xPts_eq (k : Fin 8) : xPts m c k = ((c : Thread nD τ).loc main_arg0 ↦[(xR k).set]{fullShare} xV m c : sProp 𝕄) := by
  unfold xPts; rw [set_xBlk]
theorem bufPts_eq (k : Fin 8) (f : Buf (Elt F) ((c : Thread nD τ).loc cc0_scratch0)) :
    bufPts c k f = ((c : Thread nD τ).loc cc0_scratch0 ↦[(bufR k).set]{fullShare} f : sProp 𝕄) := by
  unfold bufPts; rw [set_bufSlot]
theorem commPts_eq (s : Dev nD) (q : PosShare TreeShare) (f : Buf (Elt F) ((c : Thread nD τ).loc cc0_scratch2)) :
    commPts c s q f = ((c : Thread nD τ).loc cc0_scratch2 ↦[(commR s).set]{q} f : sProp 𝕄) := by
  unfold commPts; rw [set_commSlot]

theorem x_blocks : (xAll m c : sProp 𝕄) = bigSep (Finset.Ico 0 8) fun k => xPts m c (bk k) := by
  unfold xAll
  rw [Idealize.ShloMosaic.Ring.pointsTo_blocks (ℓ := (c : Thread nD τ).loc main_arg0) (fun k => (xR k).set) xR_disjoint xR_cover]
  simp only [← xPts_eq]
  exact bigSep_fin_Ico bk bk_eq fun k => xPts m c k
theorem buf_split : (bufAll c : sProp 𝕄) ⊢ bigSep (Finset.Ico 0 8) fun k => iprop(∃ f, bufPts (F := F) c (bk k) f) := by
  have h (f : Buf (Elt F) ((c : Thread nD τ).loc cc0_scratch0)) :
      ((c : Thread nD τ).loc cc0_scratch0 ↦{fullShare} f : sProp 𝕄) ⊢ bigSep (Finset.Ico 0 8) fun k => iprop(∃ f, bufPts (F := F) c (bk k) f) := by
    rw [Idealize.ShloMosaic.Ring.pointsTo_blocks (ℓ := (c : Thread nD τ).loc cc0_scratch0) (fun k => (bufR k).set) bufR_disjoint bufR_cover,
      ← bigSep_fin_Ico bk bk_eq fun k => iprop(∃ f, bufPts (F := F) c k f)]
    simp only [← bufPts_eq]
    exact bigSep_mono fun k _ => exists_of (fun f => bufPts (F := F) c k f) f
  unfold bufAll
  iintro ⟨%f, H⟩
  iapply (h f); iexact H
theorem buf_join (fs : ℕ → Buf (Elt F) ((c : Thread nD τ).loc cc0_scratch0)) :
    bigSep (Finset.Ico 0 8) (fun k => bufPts c (bk k) (fs k)) ⊢ (bufAll c : sProp 𝕄) := by
  refine (bigSep_mono fun k _ => exists_of (fun f => bufPts (F := F) c (bk k) f) (fs k)).trans ?_
  rw [← bigSep_fin_Ico bk bk_eq fun k => iprop(∃ f, bufPts (F := F) c k f)]
  simp only [bufPts_eq]
  exact Idealize.ShloMosaic.Ring.pointsTo_blocks_join_exists (ℓ := (c : Thread nD τ).loc cc0_scratch0) (fun k => (bufR k).set) bufR_disjoint bufR_cover (fs 0)
theorem comm_split : (commAll c : sProp 𝕄) ⊢ iprop((∃ f, commPts (F := F) c c fullShare f)
    ∗ bigSep (Finset.Ico 1 16) fun d => iprop(∃ f, commPts (F := F) c (peer c d) fullShare f)) := by
  have h (f : Buf (Elt F) ((c : Thread nD τ).loc cc0_scratch2)) :
      ((c : Thread nD τ).loc cc0_scratch2 ↦{fullShare} f : sProp 𝕄) ⊢ iprop((∃ f, commPts (F := F) c c fullShare f)
        ∗ bigSep (Finset.Ico 1 16) fun d => iprop(∃ f, commPts (F := F) c (peer c d) fullShare f)) := by
    rw [Idealize.ShloMosaic.Ring.pointsTo_blocks (ℓ := (c : Thread nD τ).loc cc0_scratch2) (fun s => (commR s).set) commR_disjoint commR_cover,
      ← bigSep_turn c fun s => iprop(∃ f, commPts (F := F) c s fullShare f)]
    simp only [← commPts_eq]
    exact bigSep_mono fun s _ => exists_of (fun f => commPts (F := F) c s fullShare f) f
  unfold commAll
  iintro ⟨%f, H⟩
  iapply (h f); iexact H
theorem comm_join (fs : Dev nD → Buf (Elt F) ((c : Thread nD τ).loc cc0_scratch2)) :
    iprop(commPts c c fullShare (fs c) ∗ bigSep (Finset.Ico 1 16) fun d => commPts c (peer c d) fullShare (fs (peer c d))) ⊢ (commAll c : sProp 𝕄) := by
  rw [← bigSep_turn c fun s => commPts (F := F) c s fullShare (fs s)]
  refine (bigSep_mono fun s _ => exists_of (fun f => commPts (F := F) c s fullShare f) (fs s)).trans ?_
  simp only [commPts_eq]
  exact Idealize.ShloMosaic.Ring.pointsTo_blocks_join_exists (ℓ := (c : Thread nD τ).loc cc0_scratch2) (fun s => (commR s).set) commR_disjoint commR_cover (fs c)

/-! ## The beginning -/

/-- The device's place at each of its semaphores. -/
def Places : sProp 𝕄 := bigSep Finset.univ fun i : Fin 41 => atPos ER (kcell (c, i)) 0 ∅ 0
/-- The tokens of what the device pays: a unit to every other barrier, its copies, its transfers at both ends. -/
def PayToks : sProp 𝕄 := iprop((bigSep (Finset.Ico 1 16) fun d => dutyTok ER (barCell (peer c d)) 0 c)
  ∗ (bigSep (Finset.Ico 0 8) fun k => dutyTok ER (copyCell c (bk k)) 0 0)
  ∗ (bigSep (Finset.Ico 1 16) fun d => dutyTok ER (sendCell c d) 0 0)
  ∗ bigSep (Finset.Ico 1 16) fun d => dutyTok ER (recvCell (peer c d) c) 0 0)
/-- The credits of what the others pay it. -/
def Credits : sProp 𝕄 := iprop(cred (tallyAt (barCell c) () 15) ∗ bigSep (Finset.Ico 1 16) fun d => cred (tallyAt (recvCell c (peer c d)) () NC))
/-- Its places at the two semaphores no transfer uses. -/
def Spare : sProp 𝕄 := iprop(atPos ER (sendCell c 16) 0 ∅ 0 ∗ atPos ER (recvCell c c) 0 ∅ 0)

theorem places_split : (Places c : sProp 𝕄) = iprop(atPos ER (barCell c) 0 ∅ 0 ∗ (bigSep (Finset.Ico 0 8) fun k => atPos ER (copyCell c (bk k)) 0 ∅ 0)
    ∗ (bigSep (Finset.Ico 1 16) fun d => atPos ER (sendCell c d) 0 ∅ 0) ∗ atPos ER (sendCell c 16) 0 ∅ 0 ∗ atPos ER (recvCell c c) 0 ∅ 0
    ∗ bigSep (Finset.Ico 1 16) fun d => atPos ER (recvCell c (peer c d)) 0 ∅ 0) :=
  cells_split c fun sm => atPos ER ((c : Thread nD τ), sm) 0 ∅ 0

theorem copyA_all : bigSep (Finset.Ico 0 8) (copyA m c) = (iprop((bigSep (Finset.Ico 0 8) fun k => atPos ER (copyCell c (bk k)) 0 ∅ 0)
    ∗ (bigSep (Finset.Ico 0 8) fun k => dutyTok ER (copyCell c (bk k)) 0 0)
    ∗ (bigSep (Finset.Ico 0 8) fun k => iprop(∃ f, bufPts (F := F) c (bk k) f)) ∗ bigSep (Finset.Ico 0 8) fun k => xPts m c (bk k)) : sProp 𝕄) :=
  sep4 _ _ _ _ _
theorem sendP_all : bigSep (Finset.Ico 1 16) (sendP c) = (iprop((bigSep (Finset.Ico 1 16) fun d => atPos ER (sendCell c d) 0 ∅ 0)
    ∗ (bigSep (Finset.Ico 1 16) fun d => dutyTok ER (sendCell c d) 0 0) ∗ bigSep (Finset.Ico 1 16) fun d => dutyTok ER (recvCell (peer c d) c) 0 0) : sProp 𝕄) :=
  sep3 _ _ _ _
theorem recvA_all : bigSep (Finset.Ico 1 16) (recvA c) = (iprop((bigSep (Finset.Ico 1 16) fun d => atPos ER (recvCell c (peer c d)) 0 ∅ 0)
    ∗ bigSep (Finset.Ico 1 16) fun d => cred (tallyAt (recvCell c (peer c d)) () NC)) : sProp 𝕄) :=
  sep2 _ _ _
theorem sig_all : (bigSep (Finset.Ico 1 16) fun d => iprop(dutyTok ER (barCell (peer c d)) 0 c ∗ ∃ f, commPts (F := F) c (peer c d) fullShare f))
    = (iprop((bigSep (Finset.Ico 1 16) fun d => dutyTok ER (barCell (peer c d)) 0 c)
      ∗ bigSep (Finset.Ico 1 16) fun d => iprop(∃ f, commPts (F := F) c (peer c d) fullShare f)) : sProp 𝕄) :=
  sep2 _ _ _

/-- A device's belongings at launch are the state the kernel begins in. -/
theorem begin_intro (f : Vec F S8x1024 .f32) (g : Vec F S1x1024 .f32) :
    iprop(Places c ∗ PayToks c ∗ Credits c ∗ xAll m c ∗ bufAll c ∗ accPts c f ∗ commAll c ∗ outPts c g ∗ (∃ W, owes (c : Thread nD τ) (O₀ c) W))
      ⊢ iprop(Begin m c f g ∗ Spare c) := by
  iintro ⟨HP, HT, HCr, Hx, Hbuf, Hacc, Hcomm, Hout, HO⟩
  ihave HP' := (Entails.of_eq (places_split c)) $$ HP
  icases HP' with ⟨Pbar, Pcopy, Psend, P1, P2, Precv⟩
  unfold PayToks Credits
  icases HT with ⟨Tbar, Tcopy, Tsend, Trecv⟩
  icases HCr with ⟨Cbar, Crecv⟩
  ihave Hx' := (Entails.of_eq (x_blocks m c)) $$ Hx
  ihave Hbuf' := (buf_split c) $$ Hbuf
  ihave Hcomm' := (comm_split c) $$ Hcomm
  icases Hcomm' with ⟨Hown, Hslots⟩
  unfold Begin Spare
  isplitr [P1 P2]
  · isplitl [HO Tbar Hslots]
    · unfold SigSt
      isplitl [HO]; · unfold O₀; iexact HO
      rw [sig_all]
      isplitl [Tbar] <;> iassumption
    isplitl [Pcopy Tcopy Hbuf' Hx']
    · iapply (walk_start (copyA m c) (copyB c) 0 8)
      rw [copyA_all]
      isplitl [Pcopy]; · iexact Pcopy
      isplitl [Tcopy]; · iexact Tcopy
      isplitl [Hbuf'] <;> iassumption
    isplitl [Hacc]; · iexact Hacc
    isplitl [Hown Pbar Cbar Psend Tsend Trecv]
    · unfold OwnSt BarP
      isplitl [Hown]; · iexact Hown
      isplitl [Pbar Cbar]
      · isplitl [Pbar] <;> iassumption
      rw [sendP_all]
      isplitl [Psend]; · iexact Psend
      isplitl [Tsend] <;> iassumption
    isplitr [Hout]
    · rw [recvA_all]
      isplitl [Precv] <;> iassumption
    iexact Hout
  isplitl [P1] <;> iassumption

/-! ## The end -/

/-- A place at a semaphore from which no round is left. -/
def Over (sm : SemLoc sig) : sProp 𝕄 :=
  iprop(∃ R : ℕ, ⌜∀ r, R ≤ r → (ringRd (F := F) m).duties ((c : Thread nD τ), sm) r = ∅⌝ ∗ atPos ER ((c : Thread nD τ), sm) R ∅ 0)

theorem over_one (sm : SemLoc sig) : atPos ER ((c : Thread nD τ), sm) 1 ∅ 0 ⊢ (Over m c sm : sProp 𝕄) := by
  unfold Over
  iintro H
  iexists 1
  isplitr; · ipureintro; exact duties_later m _
  iexact H
theorem over_idle (q : DmaSem sig) (h : Idle c q.val) : atPos ER ((c : Thread nD τ), .dma q) 0 ∅ 0 ⊢ (Over m c (.dma q) : sProp 𝕄) := by
  unfold Over
  iintro H
  iexists 0
  isplitr
  · ipureintro
    intro r _
    rcases Nat.eq_zero_or_pos r with rfl | hr
    exacts [duties_idle m c q h, duties_later m _ r hr]
  iexact H

theorem over_all (S : Finset ℕ) (q : ℕ → DmaSem sig) : (bigSep S fun d => atPos ER ((c : Thread nD τ), .dma (q d)) 1 ∅ 0)
    ⊢ (bigSep S fun d => Over m c (.dma (q d)) : sProp 𝕄) := bigSep_mono fun d _ => over_one m c (.dma (q d))

/-- Such a semaphore is closed at zero. -/
theorem close_one (i : Fin 41) : iprop(ctx m ∗ Over m c (csem i)) ⊢ (|={Set.univ}=> semVal (kcell (c, i)) 0 : sProp 𝕄) := by
  unfold ctx Over
  iintro ⟨⟨HR, -⟩, ⟨%R, %hR, Hat⟩⟩
  ihave Hc := (records_at m (c, i)) $$ HR
  icases Hc with ⟨%κ, HI, -⟩
  iapply (Rounds.cell_close ER (ringRd m) (Set.mem_univ κ) (fun h => h) (R := R) hR)
  isplitl [HI] <;> iassumption

theorem with_ctx {I : Type} [DecidableEq I] (S : Finset I) {Φ Ψ : I → sProp 𝕄} (h : ∀ i, iprop(ctx m ∗ Φ i) ⊢ Ψ i) :
    iprop(ctx m ∗ bigSep S Φ) ⊢ bigSep S Ψ :=
  (sep_mono_left (BI.bigSep_of_persistent S (ctx m))).trans ((Entails.of_eq (bigSep_sep S (fun _ => ctx m) Φ).symm).trans (bigSep_mono fun i _ => h i))

theorem close_all : iprop(ctx m ∗ bigSep Finset.univ fun i : Fin 41 => Over m c (csem i))
    ⊢ (|={Set.univ}=> bigSep Finset.univ fun i : Fin 41 => semVal (kcell (c, i)) 0 : sProp 𝕄) :=
  (with_ctx m Finset.univ fun i => close_one m c i).trans (bigSep_fupd _ _)

theorem copyC_all : bigSep (Finset.Ico 0 8) (copyC m c) = (iprop((bigSep (Finset.Ico 0 8) fun k => atPos ER (copyCell c (bk k)) 1 ∅ 0)
    ∗ (bigSep (Finset.Ico 0 8) fun k => bufPts c (bk k) (copied m c (bk k))) ∗ bigSep (Finset.Ico 0 8) fun k => xPts m c (bk k)) : sProp 𝕄) :=
  sep3 _ _ _ _
theorem sendC_all : bigSep (Finset.Ico 1 16) (sendC m c) = (iprop((bigSep (Finset.Ico 1 16) fun d => atPos ER (sendCell c d) 1 ∅ 0)
    ∗ bigSep (Finset.Ico 1 16) fun d => commPts c c (shareTokN fullShare (d - 1)) (rowV m c c)) : sProp 𝕄) :=
  sep2 _ _ _
theorem recvB_all : bigSep (Finset.Ico 1 16) (recvB m c) = (iprop((bigSep (Finset.Ico 1 16) fun d => atPos ER (recvCell c (peer c d)) 1 ∅ 0)
    ∗ bigSep (Finset.Ico 1 16) fun d => commPts c (peer c d) fullShare (rowV m c (peer c d))) : sProp 𝕄) :=
  sep2 _ _ _

/-- The state the kernel ends in is whole buffers, with the maximum in the result's, and every semaphore's rounds over. -/
theorem end_elim : iprop(End m c ∗ Spare c) ⊢ (iprop(Ow c 16 ∗ outPts c (best m c 15) ∗ accPts c (accAt m c 7) ∗ xAll m c ∗ bufAll c ∗ commAll c
    ∗ bigSep Finset.univ fun i : Fin 41 => Over m c (csem i)) : sProp 𝕄) := by
  unfold End Spare DoneSt HeldSt ownSh
  rw [copyC_all, recvB_all, x_blocks]
  iintro ⟨⟨⟨HO, HW⟩, ⟨Hout, Precv, Hslots⟩, Hown, ⟨Pcopy, Hbuf, Hx⟩, Hacc, Pbar⟩, P1, P2⟩
  ihave Hs := (walk_end (sendB c) (sendC m c) 1 16) $$ HW
  ihave Hs' := (Entails.of_eq (sendC_all m c)) $$ Hs
  icases Hs' with ⟨Psend, Htoks⟩
  ihave Hc := (commPts_shares c c (rowV m c c)).2 $$ [Hown Htoks]
  · isplitl [Hown] <;> iassumption
  isplitl [HO]; · iexact HO
  isplitl [Hout]; · iexact Hout
  isplitl [Hacc]; · iexact Hacc
  isplitl [Hx]; · iexact Hx
  isplitl [Hbuf]; · iapply (buf_join c fun k => copied m c (bk k)); iexact Hbuf
  isplitl [Hc Hslots]
  · iapply (comm_join c fun s => rowV m c s)
    isplitl [Hc] <;> iassumption
  rw [cells_split c fun sm => Over m c sm]
  isplitl [Pbar]; · iapply (over_one m c (.reg barS)); iexact Pbar
  isplitl [Pcopy]; · iapply (over_all m c (Finset.Ico 0 8) fun k => copyS (bk k)); iexact Pcopy
  isplitl [Psend]; · iapply (over_all m c (Finset.Ico 1 16) sendS); iexact Psend
  isplitl [P1]; · iapply (over_idle m c (sendS 16) (.inr (.inl rfl))); iexact P1
  isplitl [P2]; · iapply (over_idle m c (recvS c) (.inr (.inr rfl))); iexact P2
  iapply (over_all m c (Finset.Ico 1 16) fun d => recvS (peer c d)); iexact Precv

end Cert.MaxRing
-- ==== Proof.Launch.lean ====
/-
# The launch

What the sixteen devices are dealt at launch, the kernel on one device as the launch asks for it, and the run: from any
memory with all semaphores at zero the sixteen kernels terminate, each result holds the maximum of the rows its device
collected, and the arguments and the semaphores are what they were.
-/
module

public import proofs.«01_k».proof.Proof.Deal
public import Idealize.ShloMosaic.Lib.Pipeline.ValueKit

@[expose] public section

noncomputable section

namespace Cert.MaxRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The kernel on one device -/

set_option backward.proofsInPublic true in
/-- The kernel's own semaphores: the transfer semaphores but the pipeline's. -/
def osem (k : Fin 40) : SemLoc sig := .dma ⟨k.val + 1, by have := k.isLt; show _ < 41; omega⟩

/-- What a device starts from, and what it ends with. -/
def start (c : Dev nD) : sProp 𝕄 := iprop(ctx m ∗ Places c ∗ PayToks c ∗ Credits c ∗ xAll m c)
def accAll (c : Dev nD) : sProp 𝕄 := iprop(∃ f : Buf (Elt F) ((c : Thread nD τ).loc cc0_scratch1), (c : Thread nD τ).loc cc0_scratch1 ↦{fullShare} f)
def Φ₀ (c : Dev nD) : sProp 𝕄 := iprop(start m c ∗ bufAll c ∗ accAll c ∗ commAll c)
def Φ₁ (c : Dev nD) : sProp 𝕄 :=
  iprop((xAll m c ∗ bigSep Finset.univ fun i : Fin 41 => semVal (kcell (c, i)) 0) ∗ bufAll c ∗ accAll c ∗ commAll c)

def s₀ : MemSt nD τ sig (Elt F) := ⟨m, fun _ => 0, ρ⟩

def dats (_ : Fin 1) (c : Dev nD) : Pipeline.Dat τ (Elt F) Unit ℕ UU ℕ cfg0 c where
  A w := m ((cfg0.win w).arr.view.loc (c : Thread nD τ))
  after w _ := match w with
    | ⟨0, _⟩ => best m c 15
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 1)) := bigSep_W0 Φ

theorem owns_out (c : Dev nD) (X : Vec F S1x1024 .f32) :
    (owns (Ix := Unit) (Name := ℕ) (U := UU) (Lvl := ℕ) (c : Thread nD τ) (Memref.whole cc0_stg0_0) fullShare X : sProp 𝕄)
      = iprop(∃ f : Buf (Elt F) ((c : Thread nD τ).loc cc0_stg0_0), ⌜f = X⌝ ∗ ((c : Thread nD τ).loc cc0_stg0_0 ↦{fullShare} f)) := by
  unfold owns; simp only [Memref.view_whole, View.read_whole, View.set_whole]

/-- The result's buffer at `X`. -/
abbrev stg (c : Dev nD) (X : Vec F S1x1024 .f32) : sProp 𝕄 :=
  iprop(∃ f : Buf (Elt F) ((c : Thread nD τ).loc cc0_stg0_0), ⌜f = X⌝ ∗ ((c : Thread nD τ).loc cc0_stg0_0 ↦{fullShare} f))

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (best m c 15))

theorem runs_frame {c : Dev nD} {p : Prog (TpuEff nD τ sig (Elt F) Λ₀ .tc) PUnit} {P R T : sProp 𝕄} {Q : PUnit → sProp 𝕄}
    (h : P ⊢ Runs c p fun _ => T) (h' : iprop(T ∗ R) ⊢ |={Set.univ}=> Q ⟨⟩) : iprop(P ∗ R) ⊢ Runs c p Q := by
  unfold Runs at *
  have e : iprop(P ∗ R) ⊢ wp frame (wpE (defs₀ (F := F)) 𝒱₀ (c : Thread nD τ) none) Set.univ p fun _ => iprop(T ∗ R) :=
    (sep_mono_left h).trans (wp_frame_r _ _ _)
  exact e.trans ((wp_mono _ _ _ fun _ => h').trans (wp_fupd _ _ _ _ _))

/-- The end of the kernel is what the launch asks for. -/
theorem post_intro (c : Dev nD) : iprop((ctx m ∗ End m c) ∗ Spare c) ⊢ (|={Set.univ}=> bodyPost m c : sProp 𝕄) := by
  iintro ⟨⟨#HC, HE⟩, HS⟩
  ihave H := (end_elim m c) $$ [HE HS]
  · isplitl [HE] <;> iassumption
  icases H with ⟨HO, Hout, Hacc, Hx, Hbuf, Hcomm, Hover⟩
  imod (close_all m c) $$ [Hover] with Hz
  · isplitr; · iexact HC
    iexact Hover
  imodintro
  unfold bodyPost Φ₁ accAll
  isplitl [Hacc Hx Hbuf Hcomm Hz]
  · isplitl [Hx Hz]
    · isplitl [Hx] <;> iassumption
    isplitl [Hbuf]; · iexact Hbuf
    isplitl [Hacc]; · iexists (accAt m c 7); unfold accPts; iexact Hacc
    iexact Hcomm
  isplitl [HO]
  · unfold Ow Pipeline.Dat.owesAt Pipeline.owesWithin
    icases HO with ⟨%W, HO⟩
    rw [show (dats m 0 c).owed t0_0.succ = 0 from rfl, oSend_end]
    iexists W
    isplitr; · ipureintro; exact fun _ _ => Or.inl trivial
    iexact HO
  iexists (best m c 15)
  isplitr; · ipureintro; rfl
  unfold outPts
  iexact Hout

/-- The kernel on one device, from what it is dealt to what it gives back. -/
theorem body_sound (c : Dev nD) : bodyPre m c ⊢ Runs c (At (cc0_body (F := F))) fun _ => bodyPost m c := by
  have h (f : Vec F S8x1024 .f32) (g : Vec F S1x1024 .f32) :
      iprop((ctx m ∗ Begin m c f g) ∗ Spare c) ⊢ Runs c (At (cc0_body (F := F))) fun _ => bodyPost m c :=
    runs_frame (kernel_runs m c (Entails.refl _)) (post_intro m c)
  unfold bodyPre Φ₀ start accAll
  iintro ⟨⟨⟨#HC, HP, HT, HCr, Hx⟩, Hbuf, ⟨%f, Hacc⟩, Hcomm⟩, HO, ⟨%d, %g, -, Hout⟩⟩
  iapply (h f g)
  ihave H := (begin_intro m c f g) $$ [HP HT HCr Hx Hbuf Hacc Hcomm HO Hout]
  · isplitl [HP]; · iexact HP
    isplitl [HT]; · iexact HT
    isplitl [HCr]; · iexact HCr
    isplitl [Hx]; · iexact Hx
    isplitl [Hbuf]; · iexact Hbuf
    isplitl [Hacc]; · unfold accPts; iexact Hacc
    isplitl [Hcomm]; · iexact Hcomm
    isplitl [Hout]; · unfold outPts; iexact Hout
    unfold Pipeline.Dat.owesAt Pipeline.owesWithin
    icases HO with ⟨%W, -, HO⟩
    rw [show (dats m 0 c).owed t0_0.castSucc = O₀ c from rfl]
    iexists W
    iexact HO
  icases H with ⟨HB, HS⟩
  isplitr [HS]
  · isplitr; · iexact HC
    iexact HB
  iexact HS

set_option maxRecDepth 8192 in
theorem body_obligation (c : Dev nD) : Pipeline.BodyObligation (dats (F := F) m 0 c) (defs₀ (F := F)) 𝒱₀ () Set.univ := fun t => by
  rw [show t = t0_0 from fin_N0 t]
  rw [bigSep_W, bigSep_W]
  simp only [owns_out]
  exact body_sound m c

/-! ## What the launch deals -/

theorem ownSemFacts : Pipeline.OwnSemFacts cfg0.spec osem := by decide

theorem share_eq (c : Dev nD) (w : Fin cfg0.W) : (dats m 0 c).share w = fullShare := by unfold Pipeline.Dat.share; split <;> rfl

theorem csem_inj : Function.Injective csem := by decide

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Every cell of the schedule, and a token for every cell and every device. -/
def ringCells : Finset (GSem nD τ sig) := Finset.univ.map ⟨kcell, kcell_inj⟩
def tokOf (x : (Dev nD × Fin 41) × Dev nD) : GSem nD τ sig × ℕ × Dev nD := (kcell x.1, 0, x.2)
theorem tokOf_inj : Function.Injective tokOf := by
  rintro ⟨ci, p⟩ ⟨ci', p'⟩ h
  have h1 : ci = ci' := kcell_inj (congrArg Prod.fst h)
  have h2 : p = p' := congrArg (fun x : GSem nD τ sig × ℕ × Dev nD => x.2.2) h
  rw [h1, h2]
def ringToks : Finset (GSem nD τ sig × ℕ × Dev nD) := Finset.univ.map ⟨tokOf, tokOf_inj⟩

def u₀ : UU :=
  (Rounds.initOf (Pipeline.cells cfgs cellOf_inj) (Pipeline.launchToks cfgs cellOf_inj), Rounds.initOf ringCells ringToks)

/-- The tokens of device `c`'s own cells. -/
def Minted (c : Dev nD) : sProp 𝕄 := bigSep Finset.univ fun i : Fin 41 => bigSep Finset.univ fun p : Dev nD => dutyTok ER (kcell (c, i)) 0 p

/-- What a device is dealt of the schedule's state. -/
def G (c : Dev nD) : sProp 𝕄 :=
  iprop((bigSep Finset.univ fun i : Fin 41 => roundState ER (ringRd m) (kcell (c, i)) 0)
    ∗ (bigSep Finset.univ fun i : Fin 41 => reached ER (kcell (c, i)) 0) ∗ Places c ∗ Minted c)
/-- What it holds once the tokens are exchanged. -/
def G' (c : Dev nD) : sProp 𝕄 := iprop(records m ∗ Places c ∗ PayToks c)

theorem fund_ring : BI.own (ER (Rounds.initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Fin 41 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => Minted c := by
    unfold ringToks; rw [bigSep_map, bigSep_univ_prod, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G Places; simp only [bigSep_sep']
  isplitl [Hst']; · iexact Hst'
  isplitl [Hr']; · iexact Hr'
  isplitl [Hat'] <;> iassumption

theorem semVals_eq (c : Dev nD) : (bigSep Finset.univ fun i : Fin 41 => semVal (kcell (c, i)) 0 : sProp 𝕄)
    = iprop(unscopedSems0 c ∗ Pipeline.ownSems0 osem c) := by
  have h : Finset.univ.filter (fun sm : SemLoc sig => ¬ sm.isScoped .tc) = {.reg barS} := by decide
  unfold unscopedSems0 Pipeline.ownSems0
  rw [h, bigSep_singleton, Fin.univ_succ, Finset.cons_eq_insert, BI.bigSep_insert (by simp), BI.bigSep_map]
  rfl

/-- The cells of one device come under the schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 41 => iprop(∃ κ : ℕ, cellInv ER (ringRd m) κ (kcell (c, i)) ∗ reached ER (kcell (c, i)) 0))
          ∗ Places c ∗ Minted c) := by
  have alloc : iprop((bigSep Finset.univ fun i : Fin 41 => semVal (kcell (c, i)) 0) ∗ bigSep Finset.univ fun i : Fin 41 => roundState ER (ringRd m) (kcell (c, i)) 0)
      ⊢ (|={Set.univ}=> bigSep Finset.univ fun i : Fin 41 => iprop(∃ κ : ℕ, cellInv ER (ringRd m) κ (kcell (c, i))) : sProp 𝕄) := by
    rw [← bigSep_sep']
    exact (bigSep_mono fun i _ => (Rounds.body_intro ER (ringRd m) (kcell (c, i))).trans inv_alloc).trans (bigSep_fupd _ _)
  have pair (i : Fin 41) : iprop((∃ κ : ℕ, cellInv ER (ringRd m) κ (kcell (c, i))) ∗ reached ER (kcell (c, i)) 0)
      ⊢ (iprop(∃ κ : ℕ, cellInv ER (ringRd m) κ (kcell (c, i)) ∗ reached ER (kcell (c, i)) 0) : sProp 𝕄) := by
    iintro ⟨⟨%κ, HI⟩, HR⟩
    iexists κ
    isplitl [HI] <;> iassumption
  have pairs : iprop((bigSep Finset.univ fun i : Fin 41 => iprop(∃ κ : ℕ, cellInv ER (ringRd m) κ (kcell (c, i)))) ∗ bigSep Finset.univ fun i : Fin 41 => reached ER (kcell (c, i)) 0)
      ⊢ (bigSep Finset.univ fun i : Fin 41 => iprop(∃ κ : ℕ, cellInv ER (ringRd m) κ (kcell (c, i)) ∗ reached ER (kcell (c, i)) 0) : sProp 𝕄) := by
    rw [← bigSep_sep']
    exact bigSep_mono fun i _ => pair i
  unfold G
  iintro ⟨Hos, Hus, Hst, Hr, Hat, Htok⟩
  ihave Hv := (Entails.of_eq (semVals_eq (F := F) c).symm) $$ [Hos Hus]
  · isplitl [Hus] <;> iassumption
  imod alloc $$ [Hv Hst] with Hinv
  · isplitl [Hv] <;> iassumption
  imodintro
  isplitl [Hinv Hr]
  · iapply pairs
    isplitl [Hinv] <;> iassumption
  isplitl [Hat] <;> iassumption

/-- A device's own tokens, those that are ever paid with. -/
theorem minted_split (c : Dev nD) : (Minted c : sProp 𝕄) ⊢ iprop((bigSep (Finset.Ico 1 16) fun d => dutyTok ER (barCell c) 0 (peer c d))
    ∗ (bigSep (Finset.Ico 0 8) fun k => dutyTok ER (copyCell c (bk k)) 0 0)
    ∗ (bigSep (Finset.Ico 1 16) fun d => dutyTok ER (sendCell c d) 0 0)
    ∗ bigSep (Finset.Ico 1 16) fun d => dutyTok ER (recvCell c (peer c d)) 0 0) := by
  have pick (S : Finset ℕ) (q : ℕ → DmaSem sig) : (bigSep S fun d => bigSep Finset.univ fun p : Dev nD => dutyTok ER ((c : Thread nD τ), .dma (q d)) 0 p)
      ⊢ (bigSep S fun d => dutyTok ER ((c : Thread nD τ), .dma (q d)) 0 0 : sProp 𝕄) :=
    bigSep_mono fun d _ => bigSep_elim (Finset.mem_univ (0 : Dev nD))
  unfold Minted
  iintro H
  ihave H' := (Entails.of_eq (cells_split c fun sm => bigSep Finset.univ fun p : Dev nD => (dutyTok ER ((c : Thread nD τ), sm) 0 p : sProp 𝕄))) $$ H
  icases H' with ⟨Hbar, Hcopy, Hsend, -, -, Hrecv⟩
  ihave Hbar' := (Entails.of_eq (bigSep_turn c fun p => (dutyTok ER (barCell c) 0 p : sProp 𝕄))) $$ Hbar
  icases Hbar' with ⟨-, Hbar⟩
  isplitl [Hbar]; · iexact Hbar
  isplitl [Hcopy]; · iapply (pick (Finset.Ico 0 8) fun k => copyS (bk k)); iexact Hcopy
  isplitl [Hsend]; · iapply (pick (Finset.Ico 1 16) sendS); iexact Hsend
  iapply (pick (Finset.Ico 1 16) fun d => recvS (peer c d)); iexact Hrecv

/-- The tokens exchanged: each device holds those of what it pays. -/
theorem toks_around : (bigSep Finset.univ fun c : Dev nD => (Minted c : sProp 𝕄)) ⊢ bigSep Finset.univ fun c : Dev nD => PayToks c := by
  have h : (bigSep Finset.univ fun c : Dev nD => iprop((bigSep (Finset.Ico 1 16) fun d => dutyTok ER (barCell c) 0 (peer c d))
      ∗ (bigSep (Finset.Ico 0 8) fun k => dutyTok ER (copyCell c (bk k)) 0 0)
      ∗ (bigSep (Finset.Ico 1 16) fun d => dutyTok ER (sendCell c d) 0 0)
      ∗ bigSep (Finset.Ico 1 16) fun d => dutyTok ER (recvCell c (peer c d)) 0 0) : sProp 𝕄) = bigSep Finset.univ fun c : Dev nD => PayToks c := by
    unfold PayToks
    rw [bigSep_sep', bigSep_sep', bigSep_sep', bigSep_sep', bigSep_sep', bigSep_sep',
      bigSep_exchange fun c p => (dutyTok ER (barCell c) 0 p : sProp 𝕄), bigSep_exchange fun c s => (dutyTok ER (recvCell c s) 0 0 : sProp 𝕄)]
  exact h ▸ bigSep_mono fun c _ => minted_split c

theorem with_records {I : Type} [DecidableEq I] (S : Finset I) (Φ : I → sProp 𝕄) :
    iprop(records m ∗ bigSep S Φ) ⊢ bigSep S fun i => iprop(records m ∗ Φ i) :=
  (sep_mono_left (BI.bigSep_of_persistent S (records m))).trans (Entails.of_eq (bigSep_sep S (fun _ => records m) Φ).symm)

theorem regroup :
    (bigSep Finset.univ fun c : Dev nD => iprop((bigSep Finset.univ fun i : Fin 41 => iprop(∃ κ : ℕ, cellInv ER (ringRd m) κ (kcell (c, i)) ∗ reached ER (kcell (c, i)) 0))
        ∗ Places c ∗ Minted c) : sProp 𝕄) ⊢ bigSep Finset.univ (G' m) := by
  rw [bigSep_sep', bigSep_sep', ← bigSep_univ_prod (fun ci : Dev nD × Fin 41 => iprop(∃ κ : ℕ, cellInv ER (ringRd m) κ (kcell ci) ∗ reached ER (kcell ci) 0))]
  iintro ⟨HR, HP, HT⟩
  ihave HT' := (toks_around (F := F)) $$ HT
  unfold G'
  iapply (with_records m Finset.univ fun c : Dev nD => iprop(Places c ∗ PayToks c))
  isplitl [HR]; · unfold records; iexact HR
  rw [bigSep_sep']
  isplitl [HP] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.MaxRing
-- ==== Proof.Run.lean ====
/-
# The run

The credits the launch hands out — fifteen units for each barrier, one transfer for each arrival — and the run: from any
memory with all semaphores at zero the sixteen kernels terminate, each result holds the maximum of the rows its device
collected, and the arguments and the semaphores are what they were.
-/
module

public import proofs.«01_k».proof.Proof.Launch
public import Idealize.ShloMosaic.Lib.Pipeline.CollectiveSegs

@[expose] public section

noncomputable section

namespace Cert.MaxRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The credits -/

theorem sum_peers {A : Type} [AddCommMonoid A] (c : Dev nD) (f : Dev nD → A) :
    ∑ d ∈ Finset.Ico 1 16, f (peer c d) = ∑ p ∈ Finset.univ.erase c, f p := by
  rw [← image_peer_others c, Finset.sum_image fun d hd d' hd' h => peer_inj c (Finset.mem_Ico.mp hd).2 (Finset.mem_Ico.mp hd').2 h]

theorem oBar_others (c : Dev nD) : oBar c 1 = ∑ p ∈ Finset.univ.erase c, tallyAt (barCell p) () 1 := sum_peers c fun p => tallyAt (barCell p) () 1
theorem oSend_others (c : Dev nD) : oSend c 1 = ∑ p ∈ Finset.univ.erase c, tallyAt (recvCell p c) () NC := sum_peers c fun p => tallyAt (recvCell p c) () NC

theorem bar_iff {a b : Dev nD} : Iff (barCell a = barCell b) (a = b) :=
  ⟨fun h => congrArg (fun g : GSem nD τ sig => g.1.1) h, fun h => h ▸ rfl⟩
theorem recvS_inj {s s' : Dev nD} (h : recvS s = recvS s') : s = s' := Fin.ext (by
  have := congrArg Fin.val h
  rw [val_recvS, val_recvS] at this
  omega)
theorem recv_iff {a b s s' : Dev nD} : Iff (recvCell a s = recvCell b s') (a = b ∧ s = s') :=
  ⟨fun h => ⟨congrArg (fun g : GSem nD τ sig => g.1.1) h, recvS_inj (SemLoc.dma.inj (congrArg Prod.snd h))⟩, fun h => by rw [h.1, h.2]⟩
theorem recv_ne_bar {a b s : Dev nD} : recvCell a s ≠ barCell b := fun h => by cases congrArg Prod.snd h

theorem tallies_apply (S : Finset (Dev nD)) (cell : Dev nD → GSem nD τ sig) (n : ℕ) (g : GSem nD τ sig) :
    (∑ p ∈ S, tallyAt (Ix := Unit) (cell p) () n) g () = ∑ p ∈ S, if g = cell p then n else 0 := by
  rw [Finset.sum_apply, Finsupp.finset_sum_apply]
  exact Finset.sum_congr rfl fun p _ => by rw [tallyAt_apply]; simp only [and_true]

/-- Each device owes every other one unit at its barrier. -/
theorem owed_bar (d c : Dev nD) : O₀ d (barCell c) () = if d = c then 0 else 1 := by
  unfold O₀
  rw [oBar_others, oSend_others, Pi.add_apply, Finsupp.add_apply, tallies_apply, tallies_apply]
  simp only [bar_iff, fun p : Dev nD => (recv_ne_bar (a := p) (b := c) (s := d)).symm, if_false, Finset.sum_const_zero, add_zero, Finset.sum_ite_eq,
    Finset.mem_erase, Finset.mem_univ, and_true]
  by_cases h : d = c
  · rw [if_pos h, if_neg fun h' => h' h.symm]
  · rw [if_neg h, if_pos fun h' => h h'.symm]

/-- Device `s` owes every other device one arrival of its own row. -/
theorem owed_recv (d c s : Dev nD) (h : s ≠ c) : O₀ d (recvCell c s) () = if d = s then NC else 0 := by
  unfold O₀
  rw [oBar_others, oSend_others, Pi.add_apply, Finsupp.add_apply, tallies_apply, tallies_apply]
  simp only [recv_iff, fun p : Dev nD => recv_ne_bar (a := c) (b := p) (s := s), if_false, Finset.sum_const_zero, zero_add]
  by_cases h' : d = s
  · subst h'
    simp only [and_true, Finset.sum_ite_eq, if_true]
    exact if_pos (Finset.mem_erase.mpr ⟨h.symm, Finset.mem_univ _⟩)
  · rw [if_neg h']
    exact Finset.sum_eq_zero fun p _ => if_neg fun h'' => h' h''.2.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c
  decide

theorem launch_recv (c s : Dev nD) (h : s ≠ c) :
    tallyOn (recvCell c s) (launchCredit (Pipeline.owing O₀) 0 (recvCell c s)) = (tallyAt (recvCell c s) () NC : CellTallies nD τ sig Unit) := by
  unfold tallyAt; refine congrArg _ (Finsupp.ext fun u => ?_); cases u
  rw [Pipeline.launchCredit_owing, Finsupp.single_eq_same, Finset.sum_congr rfl fun d _ => owed_recv d c s h, Finset.sum_ite_eq' Finset.univ s fun _ => NC,
    if_pos (Finset.mem_univ _)]

theorem creds (c : Dev nD) : (Pipeline.launchCred O₀ c : sProp 𝕄) ⊢ Credits c := by
  have hne (d : ℕ) : SemLoc.dma (recvS (peer c d)) ≠ (SemLoc.reg barS : SemLoc sig) := fun h => by cases h
  have hsub : (Finset.Ico 1 16).image (fun d => (SemLoc.dma (recvS (peer c d)) : SemLoc sig)) ⊆ Finset.univ.erase (.reg barS) := fun x hx => by
    obtain ⟨d, -, rfl⟩ := Finset.mem_image.mp hx
    exact Finset.mem_erase.mpr ⟨hne d, Finset.mem_univ _⟩
  have hcut (Φ : SemLoc sig → sProp 𝕄) : bigSep (Finset.univ.erase (SemLoc.reg barS)) Φ ⊢ bigSep (Finset.Ico 1 16) fun d => Φ (.dma (recvS (peer c d))) := by
    have h : bigSep (Finset.univ.erase (SemLoc.reg barS)) Φ = iprop(bigSep _ Φ ∗ bigSep _ Φ) := BI.bigSep_sdiff_split hsub
    rw [h, bigSep_image_of_injOn fun d hd d' hd' h =>
      peer_inj c (Finset.mem_Ico.mp hd).2 (Finset.mem_Ico.mp hd').2 (recvS_inj (SemLoc.dma.inj h))]
    iintro ⟨H, -⟩
    iexact H
  unfold Pipeline.launchCred Credits
  rw [bigSep_univ_at _ (SemLoc.reg barS), launch_bar]
  refine sep_mono_right ((hcut _).trans ?_)
  exact bigSep_mono fun d hd => Entails.of_eq (congrArg (fun x => (cred x : sProp 𝕄)) (launch_recv c (peer c d)
    (peer_ne c (Finset.mem_Ico.mp hd).1 (Finset.mem_Ico.mp hd).2)))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Hx, Hlev, Hcr, -, ⟨HR, HP, HT⟩⟩
  ihave Hc := (creds (F := F) c) $$ Hcr
  imodintro
  unfold start ctx
  isplitl
  · isplitl [HR Hlev]
    · isplitl [HR] <;> iassumption
    isplitl [HP]; · iexact HP
    isplitl [HT]; · iexact HT
    isplitl [Hc]; · iexact Hc
    unfold xAll
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufAll accAll commAll
  iintro ⟨Hs, -, Hb, Ha, Hc⟩
  isplitl [Hs]; · iexact Hs
  isplitl [Hb]; · iexact Hb
  isplitl [Ha] <;> iassumption

/-- What is left of the argument and the barrier when the kernel is done. -/
def Y (c : Dev nD) : sProp 𝕄 := iprop(unscopedSems0 c ∗ xAll m c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y bufAll accAll commAll
  rw [semVals_eq]
  iintro ⟨⟨Hx, Hus, Hos⟩, Hb, Ha, Hc⟩
  isplitl [Hx Hus]
  · isplitl [Hus] <;> iassumption
  isplitl [Hos]; · iexact Hos
  isplitl [Hb]; · iexact Hb
  isplitl [Ha] <;> iassumption

theorem mayWait_stage (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · exact mayWait_launch c sm hsm
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w; fin_cases s; rfl) _ (by
      rcases t with ⟨_ | _, ht⟩
      · exact Or.inl rfl
      · exact Or.inr rfl)

/-- What the memory shows at the end: the barrier at zero and the argument as it was. -/
def QY (c : Dev nD) (s : MemSt nD τ sig (Elt F)) : Prop :=
  (∀ sm : SemLoc sig, sm.isScoped .tc = false → s.sem ((c.tc : Thread nD τ), sm) = 0) ∧ s.mem ((c : Thread nD τ).loc main_arg0) = xV m c

theorem read_end (c : Dev nD) (s' : Phys nD τ sig (Elt F)) : iprop(Y m c ∗ emp ∗ SI s') ⊢ (|={Set.univ}=> iprop(⌜QY m c s'.mem⌝ ∗ SI s') : sProp 𝕄) := by
  have hx : iprop(xAll m c ∗ SI s') ⊢ (iprop(⌜s'.mem.mem ((c : Thread nD τ).loc main_arg0) = xV m c⌝ ∗ SI s') : sProp 𝕄) := by
    have h := pointsTo_read_all (Ix := Unit) (Name := ℕ) (U := UU) (Lvl := ℕ) {()} (fun _ => (c : Thread nD τ).loc main_arg0) (fun _ => xV m c) s'
    rw [bigSep_singleton] at h
    unfold xAll
    iintro H
    ihave H' := h $$ H
    icases H' with ⟨%e, HSI⟩
    isplitr; · ipureintro; exact e () (Finset.mem_singleton_self _)
    iexact HSI
  have hs := Pipeline.unscopedSems0_read (Ix := Unit) (Name := ℕ) (U := UU) (Lvl := ℕ) (Val := Elt F) (X := unscopedSems0 c) (c := c) fupd_intro s'
  unfold Y
  iintro ⟨⟨Hu, Hx⟩, -, HSI⟩
  ihave H := hx $$ [Hx HSI]
  · isplitl [Hx] <;> iassumption
  icases H with ⟨%e, HSI⟩
  imod hs $$ [Hu HSI] with ⟨%e', HSI⟩
  · isplitl [Hu] <;> iassumption
  imodintro
  isplitr; · ipureintro; exact ⟨e', e⟩
  iexact HSI

/-! ## The run -/

/-- At the end each device's result holds the maximum over the rows it collected, and its argument what it held. -/
def QC : PUnit × MemSt nD τ sig (Elt F) → Prop := fun r =>
  ∀ c : Dev nD, r.2.mem ((c : Thread nD τ).loc main_v1) = best m c 15 ∧ r.2.mem ((c : Thread nD τ).loc main_arg0) = m ((c : Thread nD τ).loc main_arg0)

def finalA (c : Dev nD) (w : Fin cfg0.W) : Buf (Elt F) ((cfg0.win w).arr.view.loc (c : Thread nD τ)) := (dats m 0 c).arrAt w cfg0.N

set_option maxRecDepth 8000 in
/-- The program terminates under every weakly fair schedule, with the results as computed, the arguments unchanged and
    all semaphores at zero. -/
theorem run_any : θ_run defs (onTc (τ := τ) (main (F := F))) (s₀ m ρ) (fun r =>
    (∀ c : Dev nD, (∀ w : Fin cfg0.W, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m) (hout := phi1_exit m)
    (QY := QY m) (hY := read_end m)
    (hQ := fun _ h hs => ⟨fun c => ⟨(h c).1, (h c).2.2.2⟩, sem_eq_zero hs fun c => (h c).2.2.1⟩)

/-- The result array at the end is the one row the kernel left. -/
theorem finalA_out (c : Dev nD) : finalA m c (0 : Fin 1) = best m c 15 :=
  Pipeline.Dat.arrAt_eq_of_after_last (dats m 0 c) (0 : Fin 1) t0_0 (by decide +kernel) (best m c 15) fun j => by
    have hj : (cfg0.win (0 : Fin 1)).arr.view.emb j = j := by rfl
    rw [hj]; rfl

theorem run_main : θ_run defs (onTc (τ := τ) (main (F := F))) (s₀ m ρ) (fun r => QC m r ∧ r.2.sem = fun _ => 0) :=
  (θ_run defs _ _).mono (fun _ h => ⟨fun c => ⟨((h.1 c).1 (0 : Fin 1)).trans (finalA_out m c), (h.1 c).2⟩, h.2⟩) (run_any m ρ)

end Cert.MaxRing
-- ==== Proof.Values.lean ====
/-
# The value of the result

Over the extended reals every stage of the kernel is a maximum of entries of the devices' rows. Each is described by its
upper bounds: a number bounds the stage's entry in a column if and only if it bounds the entries of that column it ranges
over. The last of them ranges over all rows of all sixteen devices.
-/
module

public import proofs.«01_k».proof.Proof.Protocol
public import Idealize.ShloMosaic.Lib.Pointwise
public import Idealize.ShloMosaic.Lib.Pipeline.ValueKit

@[expose] public section

noncomputable section

namespace Cert.MaxRing

open Cert.KernelIdeal Cert.KernelIdeal.Gen
open Idealize.ShloMosaic Idealize.ShloMosaic.TcCoe

/-- A maximum taken from −∞ is bounded exactly by the bounds of its entries. -/
theorem fold_le {n : ℕ} (f : Fin n → EReal) (b : EReal) :
    Finset.univ.fold max (Ideal.ofBits .f32 0xFF800000#32) f ≤ b ↔ ∀ k, f k ≤ b := by
  have h : Ideal.ofBits .f32 0xFF800000#32 = ⊥ := by simp [Ideal.ofBits, Ideal.ieee]
  rw [h, Finset.fold_max_le]
  simp

/-- The maximum of a block of 512 rows, laid as 64 groups of eight: row `r` of it ranges over the rows `8 t + r`. -/
theorem pay1_le (s : Vec Ideal S1x512x1024 .f32) (r : Fin 8) (j : Fin 1024) (b : EReal) :
    (k0_pay1 s (ix2 r j) : EReal) ≤ b ↔ ∀ t : Fin 64, (s (ix3 0 ⟨t.val * 8 + r.val, by omega⟩ j) : EReal) ≤ b := by
  unfold k0_pay1
  simp only [pointwise]
  exact fold_le _ _

theorem pay2_le (s : Vec Ideal S1x512x1024 .f32) (r : Fin 8) (j : Fin 1024) (b : EReal) :
    (k0_pay2 s (ix2 r j) : EReal) ≤ b ↔ ∀ t : Fin 64, (s (ix3 0 ⟨t.val * 8 + r.val, by omega⟩ j) : EReal) ≤ b := by
  unfold k0_pay2
  simp only [pointwise]
  exact fold_le _ _

/-- A block joins the running maximum entry by entry. -/
theorem pay3_at (u v : Vec Ideal S8x1024 .f32) (r : Fin 8) (j : Fin 1024) :
    (k0_pay3 u v (ix2 r j) : EReal) = max (v (ix2 r j)) (u (ix2 r j)) := by
  unfold k0_pay3
  simp only [pointwise]

/-- The eight rows of the running maximum are joined into one. -/
theorem pay13_le (a : Vec Ideal S8x1024 .f32) (j : Fin 1024) (b : EReal) :
    (k0_pay13 a (ix3 0 0 j) : EReal) ≤ b ↔ ∀ r : Fin 8, (a (ix2 r j) : EReal) ≤ b := by
  unfold k0_pay13
  simp only [pointwise]
  exact fold_le _ _

/-- Changes of shape move no entry. -/
theorem pay14_at (v : Vec Ideal S1x1x1024 .f32) (j : Fin 1024) : k0_pay14 v (ix2 0 j) = v (ix3 0 0 j) := by
  unfold k0_pay14
  simp only [pointwise]
theorem row_at (v : Vec Ideal S1x1x1024 .f32) (j : Fin 1024) :
    shapeCast S1x1024 v shapeCasts_S1x1x1024_S1x1024 (ix2 0 j) = v (ix3 0 0 j) := by
  simp only [pointwise]

/-! ## The blocks -/

variable (m : (ℓ : Loc nD τ sig) → Buf (Elt Ideal) ℓ)

/-- The entry of device `c`'s rows at row `i`, column `j`. -/
def xAt (c : Dev nD) (i : Fin 4096) (j : Fin 1024) : EReal := xV m c (ix2 i j)

/-- The block read back from slot `k` is rows `512 k` to `512 k + 511`. -/
theorem strip_at (c : Dev nD) (k : Fin 8) (i : Fin 512) (j : Fin 1024) :
    (strip m c k (ix3 0 i j) : EReal) = xAt m c ⟨512 * k.val + i.val, by omega⟩ j := by
  have e : (bufSlot k).view.emb (ix2 i j) = (bufR k).emb (ix3 0 i j) := by
    show (bufR k).emb (Shape.reshapeEquiv _ (ix2 i j)) = _
    simp only [pointwise]
  have e' : (xBlk k).view.emb (ix2 i j) = ix2 ⟨512 * k.val + i.val, by omega⟩ j := by
    show (xR k).emb (ix2 i j) = _
    funext a
    apply Fin.ext
    rw [Rect.emb_apply]
    match a with
    | ⟨0, _⟩ => show 512 * k.val + 1 * i.val = 512 * k.val + i.val; omega
    | ⟨1, _⟩ => show 0 + 1 * j.val = j.val; omega
  show copied m c k ((bufR k).emb (ix3 0 i j)) = _
  rw [← e]
  unfold copied xAt
  rw [View.write_emb_of_mem (h := Finset.mem_univ _), ← e']
  rfl

/-- Row `r` of the running maximum after block `n` ranges over the rows `8 t + r` of the blocks up to there. -/
theorem accAt_le (c : Dev nD) (r : Fin 8) (j : Fin 1024) (b : EReal) (n : ℕ) :
    (accAt m c n (ix2 r j) : EReal) ≤ b ↔ ∀ k ≤ n, ∀ t : Fin 64, xAt m c ⟨512 * (bk k).val + (t.val * 8 + r.val), by have := (bk k).isLt; omega⟩ j ≤ b := by
  induction n with
  | zero =>
    rw [accAt, pay1_le]
    simp only [strip_at]
    exact ⟨fun h k hk t => by obtain rfl : k = 0 := Nat.le_zero.mp hk; exact h t, fun h t => h 0 le_rfl t⟩
  | succ n ih =>
    rw [accAt, pay3_at, max_le_iff, ih, pay2_le]
    simp only [strip_at]
    constructor
    · rintro ⟨h, h'⟩ k hk t
      rcases Nat.lt_or_ge n k with hk' | hk'
      · obtain rfl : k = n + 1 := by omega
        exact h' t
      · exact h k hk' t
    · exact fun h => ⟨fun k hk t => h k (by omega) t, fun t => h (n + 1) le_rfl t⟩

/-- A device's row, in column `j`, is the maximum of its 4096 entries of that column. -/
theorem rowAt_le (c : Dev nD) (j : Fin 1024) (b : EReal) :
    (rowAt m c (ix3 0 0 j) : EReal) ≤ b ↔ ∀ i : Fin 4096, xAt m c i j ≤ b := by
  unfold rowAt
  rw [pay13_le]
  refine (forall_congr' fun r => accAt_le m c r j b 7).trans ?_
  constructor
  · intro h i
    have h' := h ⟨i.val % 8, by omega⟩ (i.val / 512) (by omega) ⟨i.val % 512 / 8, by omega⟩
    convert h' using 2
    apply Fin.ext
    show i.val = 512 * (i.val / 512 % 8) + (i.val % 512 / 8 * 8 + i.val % 8)
    omega
  · exact fun h r k _ t => h _

/-- What device `c` has collected up to distance `n` ranges over the rows of the devices up to there. -/
theorem best_le (c : Dev nD) (j : Fin 1024) (b : EReal) (n : ℕ) :
    (best m c n (ix2 0 j) : EReal) ≤ b ↔ ∀ d ≤ n, ∀ i : Fin 4096, xAt m (peer c d) i j ≤ b := by
  induction n with
  | zero =>
    rw [best, pay14_at, rowAt_le]
    exact ⟨fun h d hd => by obtain rfl : d = 0 := Nat.le_zero.mp hd; rw [peer_zero]; exact h, fun h => by have := h 0 le_rfl; rwa [peer_zero] at this⟩
  | succ n ih =>
    rw [best]
    show max (best m c n (ix2 0 j) : EReal) (shapeCast S1x1024 (rowAt m (peer c (n + 1))) shapeCasts_S1x1x1024_S1x1024 (ix2 0 j)) ≤ b ↔ _
    rw [row_at, max_le_iff, ih, rowAt_le]
    constructor
    · rintro ⟨h, h'⟩ d hd
      rcases Nat.lt_or_ge n d with hd' | hd'
      · obtain rfl : d = n + 1 := by omega
        exact h'
      · exact h d hd'
    · exact fun h => ⟨fun d hd => h d (by omega), h (n + 1) le_rfl⟩

/-- The result, in column `j`, is the maximum of the entries of that column on all sixteen devices. -/
theorem result_le (c : Dev nD) (j : Fin 1024) (b : EReal) :
    (best m c 15 (ix2 0 j) : EReal) ≤ b ↔ ∀ (s : Dev nD) (i : Fin 4096), xAt m s i j ≤ b := by
  rw [best_le]
  constructor
  · intro h s
    obtain ⟨d, hd, rfl⟩ := exists_peer c s
    exact h d (by omega)
  · exact fun h d _ => h _

end Cert.MaxRing
-- ==== Proof.Equation.lean ====
/-
# Kernel and reference compute one row

The reference is the maximum over the 65536 rows of the whole array. Device `s` holds rows `4096 s` to `4096 s + 4095` of
it, so the maximum over the rows of all sixteen devices is the reference's value on every device.
-/
module

public import proofs.«01_k».proof.Proof.Values
public import proofs.«01_k».proof.Proof.Gen.ReferenceIdeal.Run

@[expose] public section

noncomputable section

namespace Cert.MaxRing

open Cert.KernelIdeal Cert.KernelIdeal.Gen
open Idealize.ShloMosaic Idealize.ShloMosaic.TcCoe

/-- What the reference's operations make of the whole array. -/
def refRow (X : FVec Ideal ⟨2, ![65536, 1024]⟩ .f32) : FVec Ideal ⟨2, ![1, 1024]⟩ .f32 :=
  broadcastInDim Cert.ReferenceIdeal.S1x1024 ![1] Cert.ReferenceIdeal.Gen.facts.bcast_S1024_S1x1024_1
    (Host.reduce FloatOps.maximumf X (constant Cert.ReferenceIdeal.S_ .f32 0xFF800000#32)
      Cert.ReferenceIdeal.Gen.facts.reducesTo_S65536x1024_S1024_d0 Cert.ReferenceIdeal.Gen.facts.h_S_)

/-- The reference's entry in column `j` is the maximum of that column. -/
theorem refRow_le (X : FVec Ideal ⟨2, ![65536, 1024]⟩ .f32) (j : Fin 1024) (b : EReal) :
    (refRow X (ix2 0 j) : EReal) ≤ b ↔ ∀ i : Fin 65536, (X (ix2 i j) : EReal) ≤ b := by
  unfold refRow
  simp only [pointwise]
  exact fold_le _ _

/-- Device `c`'s row `i` is row `4096 c + i` of the whole array. -/
theorem block_at (X : FVec Ideal ⟨2, ![65536, 1024]⟩ .f32) (c : Fin 16) (i : Fin 4096) (j : Fin 1024) :
    (Layout.block ⟨2, ![4096, 1024]⟩ ⟨2, ![65536, 1024]⟩ 0 16 c X) (ix2 i j) = X (ix2 ⟨4096 * c.val + i.val, by omega⟩ j) := by
  rw [Layout.block_apply]
  congr 1
  funext a
  apply Fin.ext
  match a with
  | ⟨0, _⟩ => show c.val * 4096 + i.val = 4096 * c.val + i.val; omega
  | ⟨1, _⟩ => rfl

/-- From devices that hold their parts of the whole array, every device's result is the reference's row. -/
theorem result_eq (m : (ℓ : Loc nD τ sig) → Buf (Elt Ideal) ℓ) (X : FVec Ideal ⟨2, ![65536, 1024]⟩ .f32)
    (h : ∀ c : Dev nD, xV m c = Layout.block ⟨2, ![4096, 1024]⟩ ⟨2, ![65536, 1024]⟩ 0 16 c X) (c : Dev nD) :
    best m c 15 = refRow X := by
  have hx (s : Dev nD) (i : Fin 4096) (j : Fin 1024) : xAt m s i j = X (ix2 ⟨4096 * s.val + i.val, by have : s.val < 16 := s.isLt; omega⟩ j) := by
    unfold xAt
    rw [h s]
    exact block_at X s i j
  have hj (j : Fin 1024) : (best m c 15 (ix2 0 j) : EReal) = refRow X (ix2 0 j) := eq_of_forall_ge_iff fun b => by
    rw [result_le, refRow_le]
    simp only [hx]
    constructor
    · intro h' i
      have h'' := h' ⟨i.val / 4096, by show _ < 16; omega⟩ ⟨i.val % 4096, by omega⟩
      convert h'' using 3
      apply Fin.ext
      show i.val = 4096 * (i.val / 4096) + i.val % 4096
      omega
    · exact fun h' s i => h' _
  funext p
  have hp : p = ix2 0 (p 1) := by
    funext a
    match a with
    | ⟨0, _⟩ => exact Subsingleton.elim (α := Fin 1) _ _
    | ⟨1, _⟩ => rfl
  rw [hp]
  exact hj (p 1)

end Cert.MaxRing
-- ==== Proof.lean ====
/-
# The claims

Both readings of the kernel run without fault and leave arguments and semaphores as they were; so does the reference; and
over the extended reals every device's result is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The two readings of the kernel have one body table. -/
theorem bodies_eq : Cert.Kernel.defs₀ (F := Bits) = Cert.KernelIdeal.defs₀ (F := Bits) :=
  congrArg (Defs.onTc (nD := Cert.Kernel.nD) (τ := Cert.Kernel.τ)) (funext fun ℓ => funext fun x => match ℓ, x with
    | 0, (_, _) => rfl
    | ⟨_ + 1, h⟩, _ => absurd h (Nat.not_lt.2 (Nat.le_add_left _ _)))
/-- So they have one table of programs. -/
theorem defs_eq : Cert.Kernel.defs (F := Bits) = Cert.KernelIdeal.defs (F := Bits) := congrArg (Pipeline.defs Cert.Kernel.pcfgs) bodies_eq

/-- The kernel over bit patterns terminates, its arguments unchanged and all semaphores at zero. Its text is the ideal
    program's, so the run is the same. -/
theorem frame_kernel : Cert.quiescent_Kernel := fun m ρ _ => by
  rw [defs_eq]
  exact (θ_run Cert.KernelIdeal.defs _ _).mono (fun _ h => ⟨fun c => (h.1 c).2, h.2⟩) (Cert.MaxRing.run_main (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.MaxRing.run_main (F := Ideal) m ρ)

/-- The reference terminates with its argument unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On devices that hold their rows of the whole array, every device's result is the reference's row of column maxima. -/
theorem value : Cert.algebraic_KernelIdeal_ReferenceIdeal := fun m ρ m' ρ' _ hx =>
  ⟨Cert.MaxRing.refRow (m' (((0 : Dev Cert.ReferenceIdeal.nD) : Thread Cert.ReferenceIdeal.nD Cert.ReferenceIdeal.τ).loc Cert.ReferenceIdeal.main_arg0)),
    (θ_run Cert.KernelIdeal.defs _ _).mono (fun _ h c => ⟨((h.1 c).1).trans (Cert.MaxRing.result_eq m _ hx c), (h.1 c).2⟩)
      (Cert.MaxRing.run_main (F := Ideal) m ρ),
    (θ_run Cert.ReferenceIdeal.defs _ _).mono (fun _ h => h 0) (Cert.ReferenceIdeal.Value.run (F := Ideal) m' ρ')⟩

/-- All claims together. -/
theorem claim : Cert.Claim := ⟨Cert.Kernel.Gen.facts, Cert.KernelIdeal.Gen.facts, Cert.ReferenceIdeal.Gen.facts,
  frame_kernel, frame_ideal, frame_reference, trivial, value⟩

end Cert.Proof

end
